-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.bf16_pair.Statement Cert.KernelIdeal.S320x128 Cert.KernelIdeal.S160x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v117) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x6554x8x128 : Shape := ⟨4, ![2, 6554, 8, 128]⟩
abbrev S2x8x128 : Shape := ⟨3, ![2, 8, 128]⟩
abbrev S2x32768x8x128 : Shape := ⟨4, ![2, 32768, 8, 128]⟩
abbrev S2x52432x128 : Shape := ⟨3, ![2, 52432, 128]⟩
abbrev S2x262144x128 : Shape := ⟨3, ![2, 262144, 128]⟩
abbrev S2x524288x128 : Shape := ⟨3, ![2, 524288, 128]⟩
abbrev S1x2048x128 : Shape := ⟨3, ![1, 2048, 128]⟩
abbrev S1x8x128 : Shape := ⟨3, ![1, 8, 128]⟩
abbrev S1x10240x128 : Shape := ⟨3, ![1, 10240, 128]⟩
abbrev S1x20480x128 : Shape := ⟨3, ![1, 20480, 128]⟩
abbrev S8x128 : Shape := ⟨2, ![8, 128]⟩
abbrev S1x32x128 : Shape := ⟨3, ![1, 32, 128]⟩
abbrev S32x128 : Shape := ⟨2, ![32, 128]⟩
abbrev S4x8x128 : Shape := ⟨3, ![4, 8, 128]⟩
abbrev S1x160x128 : Shape := ⟨3, ![1, 160, 128]⟩
abbrev S160x128 : Shape := ⟨2, ![160, 128]⟩
abbrev S160x1x128 : Shape := ⟨3, ![160, 1, 128]⟩
abbrev S160x2x128 : Shape := ⟨3, ![160, 2, 128]⟩
abbrev S320x128 : Shape := ⟨2, ![320, 128]⟩
abbrev S1x320x128 : Shape := ⟨3, ![1, 320, 128]⟩
abbrev S2x65536x8x128 : Shape := ⟨4, ![2, 65536, 8, 128]⟩

abbrev nBuf : Space → Nat
  | .hbm => 16
  | .vmem => 20
  | .smem => 0
  | _ => 0

abbrev bufTy : (tb : Table) → Fin (tcTables nBuf tb) → BufTy
  | .hbm, ⟨0, _⟩ => ⟨S2x6554x8x128, .i8⟩
  | .hbm, ⟨1, _⟩ => ⟨S2x8x128, .f32⟩
  | .hbm, ⟨2, _⟩ => ⟨S2x32768x8x128, .i8⟩
  | .hbm, ⟨3, _⟩ => ⟨S2x8x128, .f32⟩
  | .hbm, ⟨4, _⟩ => ⟨S2x6554x8x128, .i8⟩
  | .hbm, ⟨5, _⟩ => ⟨S2x8x128, .f32⟩
  | .hbm, ⟨6, _⟩ => ⟨S2x32768x8x128, .i8⟩
  | .hbm, ⟨7, _⟩ => ⟨S2x8x128, .f32⟩
  | .hbm, ⟨8, _⟩ => ⟨S2x52432x128, .i8⟩
  | .hbm, ⟨9, _⟩ => ⟨S2x262144x128, .i8⟩
  | .hbm, ⟨10, _⟩ => ⟨S2x52432x128, .i8⟩
  | .hbm, ⟨11, _⟩ => ⟨S2x262144x128, .i8⟩
  | .hbm, ⟨12, _⟩ => ⟨S2x524288x128, .bf16⟩
  | .hbm, ⟨13, _⟩ => ⟨S2x524288x128, .bf16⟩
  | .hbm, ⟨14, _⟩ => ⟨S2x65536x8x128, .bf16⟩
  | .hbm, ⟨15, _⟩ => ⟨S2x65536x8x128, .bf16⟩
  | .local _ .vmem, ⟨0, _⟩ => ⟨S1x2048x128, .i8⟩
  | .local _ .vmem, ⟨1, _⟩ => ⟨S1x2048x128, .i8⟩
  | .local _ .vmem, ⟨2, _⟩ => ⟨S1x8x128, .f32⟩
  | .local _ .vmem, ⟨3, _⟩ => ⟨S1x8x128, .f32⟩
  | .local _ .vmem, ⟨4, _⟩ => ⟨S1x10240x128, .i8⟩
  | .local _ .vmem, ⟨5, _⟩ => ⟨S1x10240x128, .i8⟩
  | .local _ .vmem, ⟨6, _⟩ => ⟨S1x8x128, .f32⟩
  | .local _ .vmem, ⟨7, _⟩ => ⟨S1x8x128, .f32⟩
  | .local _ .vmem, ⟨8, _⟩ => ⟨S1x2048x128, .i8⟩
  | .local _ .vmem, ⟨9, _⟩ => ⟨S1x2048x128, .i8⟩
  | .local _ .vmem, ⟨10, _⟩ => ⟨S1x8x128, .f32⟩
  | .local _ .vmem, ⟨11, _⟩ => ⟨S1x8x128, .f32⟩
  | .local _ .vmem, ⟨12, _⟩ => ⟨S1x10240x128, .i8⟩
  | .local _ .vmem, ⟨13, _⟩ => ⟨S1x10240x128, .i8⟩
  | .local _ .vmem, ⟨14, _⟩ => ⟨S1x8x128, .f32⟩
  | .local _ .vmem, ⟨15, _⟩ => ⟨S1x8x128, .f32⟩
  | .local _ .vmem, ⟨16, _⟩ => ⟨S1x20480x128, .bf16⟩
  | .local _ .vmem, ⟨17, _⟩ => ⟨S1x20480x128, .bf16⟩
  | .local _ .vmem, ⟨18, _⟩ => ⟨S1x20480x128, .bf16⟩
  | .local _ .vmem, ⟨19, _⟩ => ⟨S1x20480x128, .bf16⟩
  | _, _ => ⟨S2x6554x8x128, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [BitOps F]

abbrev grid0 : Pipeline.Grid := ⟨2, ![2, 26], ![false, false]⟩

@[reducible] def k0_t1_loop : Scf.Loop 32 :=
  let c0_i32 : BitVec 32 := 0#32
  let c64_i32 : BitVec 32 := 64#32
  let v4 : BitVec 32 := Scalar.addi c0_i32 c64_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c32_i32 : BitVec 32 := 32#32
  let v10 : BitVec 32 := Scalar.muli arg12 c32_i32
  v10
def k0_off1 (k0_t1 : Fin k0_t1_loop.trips) : Fin 3 → Nat :=
  let c0_16 : Index := 0#32
  let c0_i32 : BitVec 32 := 0#32
  let c1_i32 : BitVec 32 := 1#32
  let arg12 : BitVec 32 := Scf.iv c0_i32 c1_i32 k0_t1
  let c32_i32 : BitVec 32 := 32#32
  let v10 : BitVec 32 := Scalar.muli arg12 c32_i32
  let v11 : BitVec 32 := v10
  let v12 : Index := Scalar.indexCast v11
  let c0_17 : Index := 0#32
  ![0, v12.toNat, 0]
def k0_mult2 (k0_t1 : Fin k0_t1_loop.trips) : BitVec 32 :=
  let c0_i32 : BitVec 32 := 0#32
  let c1_i32 : BitVec 32 := 1#32
  let arg12 : BitVec 32 := Scf.iv c0_i32 c1_i32 k0_t1
  let c160_i32 : BitVec 32 := 160#32
  let v20 : BitVec 32 := Scalar.muli arg12 c160_i32
  v20
def k0_off2 (k0_t1 : Fin k0_t1_loop.trips) : Fin 3 → Nat :=
  let c0_18 : Index := 0#32
  let c0_i32 : BitVec 32 := 0#32
  let c1_i32 : BitVec 32 := 1#32
  let arg12 : BitVec 32 := Scf.iv c0_i32 c1_i32 k0_t1
  let c160_i32 : BitVec 32 := 160#32
  let v20 : BitVec 32 := Scalar.muli arg12 c160_i32
  let v21 : BitVec 32 := v20
  let v22 : Index := Scalar.indexCast v21
  let c0_19 : Index := 0#32
  ![0, v22.toNat, 0]
def k0_mult3 (k0_t1 : Fin k0_t1_loop.trips) : BitVec 32 :=
  let c0_i32 : BitVec 32 := 0#32
  let c1_i32 : BitVec 32 := 1#32
  let arg12 : BitVec 32 := Scf.iv c0_i32 c1_i32 k0_t1
  let c320_i32 : BitVec 32 := 320#32
  let v209 : BitVec 32 := Scalar.muli arg12 c320_i32
  v209
def k0_off3 (k0_t1 : Fin k0_t1_loop.trips) : Fin 3 → Nat :=
  let c0_22 : Index := 0#32
  let c0_i32 : BitVec 32 := 0#32
  let c1_i32 : BitVec 32 := 1#32
  let arg12 : BitVec 32 := Scf.iv c0_i32 c1_i32 k0_t1
  let c320_i32 : BitVec 32 := 320#32
  let v209 : BitVec 32 := Scalar.muli arg12 c320_i32
  let v210 : BitVec 32 := v209
  let v211 : Index := Scalar.indexCast v210
  let c0_23 : Index := 0#32
  ![0, v211.toNat, 0]
@[reducible] def k0_t2_loop : Scf.Loop 32 :=
  let c0_i32_12 : BitVec 32 := 0#32
  let c64_i32_13 : BitVec 32 := 64#32
  let v9 : BitVec 32 := Scalar.addi c0_i32_12 c64_i32_13
  let c1_i32_14 : BitVec 32 := 1#32
  ⟨c0_i32_12, v9, c1_i32_14⟩
def k0_mult4 (k0_t2 : Fin k0_t2_loop.trips) : BitVec 32 :=
  let c0_i32_12 : BitVec 32 := 0#32
  let c1_i32_14 : BitVec 32 := 1#32
  let arg12 : BitVec 32 := Scf.iv c0_i32_12 c1_i32_14 k0_t2
  let c32_i32 : BitVec 32 := 32#32
  let v10 : BitVec 32 := Scalar.muli arg12 c32_i32
  v10
def k0_off4 (k0_t2 : Fin k0_t2_loop.trips) : Fin 3 → Nat :=
  let c0_16 : Index := 0#32
  let c0_i32_12 : BitVec 32 := 0#32
  let c1_i32_14 : BitVec 32 := 1#32
  let arg12 : BitVec 32 := Scf.iv c0_i32_12 c1_i32_14 k0_t2
  let c32_i32 : BitVec 32 := 32#32
  let v10 : BitVec 32 := Scalar.muli arg12 c32_i32
  let v11 : BitVec 32 := v10
  let v12 : Index := Scalar.indexCast v11
  let c0_17 : Index := 0#32
  ![0, v12.toNat, 0]
def k0_mult5 (k0_t2 : Fin k0_t2_loop.trips) : BitVec 32 :=
  let c0_i32_12 : BitVec 32 := 0#32
  let c1_i32_14 : BitVec 32 := 1#32
  let arg12 : BitVec 32 := Scf.iv c0_i32_12 c1_i32_14 k0_t2
  let c160_i32 : BitVec 32 := 160#32
  let v20 : BitVec 32 := Scalar.muli arg12 c160_i32
  v20
def k0_off5 (k0_t2 : Fin k0_t2_loop.trips) : Fin 3 → Nat :=
  let c0_18 : Index := 0#32
  let c0_i32_12 : BitVec 32 := 0#32
  let c1_i32_14 : BitVec 32 := 1#32
  let arg12 : BitVec 32 := Scf.iv c0_i32_12 c1_i32_14 k0_t2
  let c160_i32 : BitVec 32 := 160#32
  let v20 : BitVec 32 := Scalar.muli arg12 c160_i32
  let v21 : BitVec 32 := v20
  let v22 : Index := Scalar.indexCast v21
  let c0_19 : Index := 0#32
  ![0, v22.toNat, 0]
def k0_mult6 (k0_t2 : Fin k0_t2_loop.trips) : BitVec 32 :=
  let c0_i32_12 : BitVec 32 := 0#32
  let c1_i32_14 : BitVec 32 := 1#32
  let arg12 : BitVec 32 := Scf.iv c0_i32_12 c1_i32_14 k0_t2
  let c320_i32 : BitVec 32 := 320#32
  let v209 : BitVec 32 := Scalar.muli arg12 c320_i32
  v209
def k0_off6 (k0_t2 : Fin k0_t2_loop.trips) : Fin 3 → Nat :=
  let c0_22 : Index := 0#32
  let c0_i32_12 : BitVec 32 := 0#32
  let c1_i32_14 : BitVec 32 := 1#32
  let arg12 : BitVec 32 := Scf.iv c0_i32_12 c1_i32_14 k0_t2
  let c320_i32 : BitVec 32 := 320#32
  let v209 : BitVec 32 := Scalar.muli arg12 c320_i32
  let v210 : BitVec 32 := v209
  let v211 : Index := Scalar.indexCast v210
  let c0_23 : Index := 0#32
  ![0, v211.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x128 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x10240x128 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x128 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x10240x128 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x20480x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x20480x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F]
-- ==== ReferenceIdeal.lean ====
abbrev S2x6554x8x128 : Shape := ⟨4, ![2, 6554, 8, 128]⟩
abbrev S2x8x128 : Shape := ⟨3, ![2, 8, 128]⟩
abbrev S2x32768x8x128 : Shape := ⟨4, ![2, 32768, 8, 128]⟩
abbrev S2x1x8x128 : Shape := ⟨4, ![2, 1, 8, 128]⟩
abbrev S_ : Shape := ⟨0, ![]⟩
abbrev S32768 : Shape := ⟨1, ![32768]⟩
abbrev S32768x1 : Shape := ⟨2, ![32768, 1]⟩
abbrev S2x32768x1x8x128 : Shape := ⟨5, ![2, 32768, 1, 8, 128]⟩
abbrev S2x32768x2x8x128 : Shape := ⟨5, ![2, 32768, 2, 8, 128]⟩
abbrev S2x65536x8x128 : Shape := ⟨4, ![2, 65536, 8, 128]⟩

abbrev nBuf : Space → Nat
  | .hbm => 220
  | .vmem => 0
  | .smem => 0
  | _ => 0

abbrev hbmTy0_0 (i : Nat) : BufTy := match i % 128 with
  | 0 => ⟨S2x6554x8x128, .i8⟩
  | 1 => ⟨S2x8x128, .f32⟩
  | 2 => ⟨S2x32768x8x128, .i8⟩
  | 3 => ⟨S2x8x128, .f32⟩
  | 4 => ⟨S2x6554x8x128, .i8⟩
  | 5 => ⟨S2x8x128, .f32⟩
  | 6 => ⟨S2x32768x8x128, .i8⟩
  | 7 => ⟨S2x8x128, .f32⟩
  | 8 => ⟨S2x6554x8x128, .i32⟩
  | 9 => ⟨S2x6554x8x128, .f32⟩
  | 10 => ⟨S2x1x8x128, .f32⟩
  | 11 => ⟨S2x6554x8x128, .f32⟩
  | 12 => ⟨S2x6554x8x128, .f32⟩
  | 13 => ⟨S2x32768x8x128, .i32⟩
  | 14 => ⟨S_, .i32⟩
  | 15 => ⟨S2x32768x8x128, .i32⟩
  | 16 => ⟨S2x32768x8x128, .i32⟩
  | 17 => ⟨S_, .i32⟩
  | 18 => ⟨S2x32768x8x128, .i32⟩
  | 19 => ⟨S2x32768x8x128, .i1⟩
  | 20 => ⟨S2x32768x8x128, .i32⟩
  | 21 => ⟨S_, .i32⟩
  | 22 => ⟨S2x32768x8x128, .i32⟩
  | 23 => ⟨S2x32768x8x128, .i32⟩
  | 24 => ⟨S2x32768x8x128, .i32⟩
  | 25 => ⟨S_, .i32⟩
  | 26 => ⟨S2x32768x8x128, .i32⟩
  | 27 => ⟨S2x32768x8x128, .i32⟩
  | 28 => ⟨S_, .i32⟩
  | 29 => ⟨S2x32768x8x128, .i32⟩
  | 30 => ⟨S2x32768x8x128, .i1⟩
  | 31 => ⟨S2x32768x8x128, .i32⟩
  | 32 => ⟨S_, .i32⟩
  | 33 => ⟨S2x32768x8x128, .i32⟩
  | 34 => ⟨S2x32768x8x128, .i32⟩
  | 35 => ⟨S2x32768x8x128, .i32⟩
  | 36 => ⟨S32768, .i32⟩
  | 37 => ⟨S2x1x8x128, .f32⟩
  | 38 => ⟨S_, .i32⟩
  | 39 => ⟨S32768, .i32⟩
  | 40 => ⟨S32768, .i32⟩
  | 41 => ⟨S_, .i32⟩
  | 42 => ⟨S_, .i32⟩
  | 43 => ⟨S32768, .i32⟩
  | 44 => ⟨S32768, .i32⟩
  | 45 => ⟨S32768, .i32⟩
  | 46 => ⟨S_, .i32⟩
  | 47 => ⟨S32768, .i32⟩
  | 48 => ⟨S32768, .i1⟩
  | 49 => ⟨S32768, .i32⟩
  | 50 => ⟨S32768, .i32⟩
  | 51 => ⟨S_, .i32⟩
  | 52 => ⟨S32768, .i32⟩
  | 53 => ⟨S32768, .i1⟩
  | 54 => ⟨S32768, .i1⟩
  | 55 => ⟨S_, .i32⟩
  | 56 => ⟨S32768, .i32⟩
  | 57 => ⟨S32768, .i32⟩
  | 58 => ⟨S32768, .i32⟩
  | 59 => ⟨S_, .i32⟩
  | 60 => ⟨S32768, .i32⟩
  | 61 => ⟨S32768, .i1⟩
  | 62 => ⟨S_, .i32⟩
  | 63 => ⟨S32768, .i32⟩
  | 64 => ⟨S32768, .i32⟩
  | 65 => ⟨S32768, .i32⟩
  | 66 => ⟨S32768x1, .i32⟩
  | 67 => ⟨S2x32768x8x128, .f32⟩
  | 68 => ⟨S2x32768x8x128, .f32⟩
  | 69 => ⟨S2x32768x8x128, .f32⟩
  | 70 => ⟨S2x32768x8x128, .f32⟩
  | 71 => ⟨S2x32768x8x128, .f32⟩
  | 72 => ⟨S_, .i32⟩
  | 73 => ⟨S32768, .i32⟩
  | 74 => ⟨S32768, .i32⟩
  | 75 => ⟨S_, .i32⟩
  | 76 => ⟨S32768, .i32⟩
  | 77 => ⟨S32768, .i32⟩
  | 78 => ⟨S_, .i32⟩
  | 79 => ⟨S_, .i32⟩
  | 80 => ⟨S32768, .i32⟩
  | 81 => ⟨S32768, .i32⟩
  | 82 => ⟨S32768, .i32⟩
  | 83 => ⟨S_, .i32⟩
  | 84 => ⟨S32768, .i32⟩
  | 85 => ⟨S32768, .i1⟩
  | 86 => ⟨S32768, .i32⟩
  | 87 => ⟨S32768, .i32⟩
  | 88 => ⟨S_, .i32⟩
  | 89 => ⟨S32768, .i32⟩
  | 90 => ⟨S32768, .i1⟩
  | 91 => ⟨S32768, .i1⟩
  | 92 => ⟨S_, .i32⟩
  | 93 => ⟨S32768, .i32⟩
  | 94 => ⟨S32768, .i32⟩
  | 95 => ⟨S32768, .i32⟩
  | 96 => ⟨S_, .i32⟩
  | 97 => ⟨S32768, .i32⟩
  | 98 => ⟨S32768, .i1⟩
  | 99 => ⟨S_, .i32⟩
  | 100 => ⟨S32768, .i32⟩
  | 101 => ⟨S32768, .i32⟩
  | 102 => ⟨S32768, .i32⟩
  | 103 => ⟨S32768x1, .i32⟩
  | 104 => ⟨S2x32768x8x128, .f32⟩
  | 105 => ⟨S2x32768x8x128, .f32⟩
  | 106 => ⟨S2x32768x8x128, .f32⟩
  | 107 => ⟨S2x32768x8x128, .f32⟩
  | 108 => ⟨S2x32768x8x128, .f32⟩
  | 109 => ⟨S2x32768x1x8x128, .f32⟩
  | 110 => ⟨S2x32768x1x8x128, .f32⟩
  | 111 => ⟨S2x32768x2x8x128, .f32⟩
  | 112 => ⟨S2x65536x8x128, .f32⟩
  | 113 => ⟨S2x65536x8x128, .bf16⟩
  | 114 => ⟨S2x6554x8x128, .i32⟩
  | 115 => ⟨S2x6554x8x128, .f32⟩
  | 116 => ⟨S2x1x8x128, .f32⟩
  | 117 => ⟨S2x6554x8x128, .f32⟩
  | 118 => ⟨S2x6554x8x128, .f32⟩
  | 119 => ⟨S2x32768x8x128, .i32⟩
  | 120 => ⟨S_, .i32⟩
  | 121 => ⟨S2x32768x8x128, .i32⟩
  | 122 => ⟨S2x32768x8x128, .i32⟩
  | 123 => ⟨S_, .i32⟩
  | 124 => ⟨S2x32768x8x128, .i32⟩
  | 125 => ⟨S2x32768x8x128, .i1⟩
  | 126 => ⟨S2x32768x8x128, .i32⟩
  | 127 => ⟨S_, .i32⟩
  | _ => ⟨S2x6554x8x128, .i8⟩

abbrev hbmTy0_1 (i : Nat) : BufTy := match i % 128 with
  | 0 => ⟨S2x32768x8x128, .i32⟩
  | 1 => ⟨S2x32768x8x128, .i32⟩
  | 2 => ⟨S2x32768x8x128, .i32⟩
  | 3 => ⟨S_, .i32⟩
  | 4 => ⟨S2x32768x8x128, .i32⟩
  | 5 => ⟨S2x32768x8x128, .i32⟩
  | 6 => ⟨S_, .i32⟩
  | 7 => ⟨S2x32768x8x128, .i32⟩
  | 8 => ⟨S2x32768x8x128, .i1⟩
  | 9 => ⟨S2x32768x8x128, .i32⟩
  | 10 => ⟨S_, .i32⟩
  | 11 => ⟨S2x32768x8x128, .i32⟩
  | 12 => ⟨S2x32768x8x128, .i32⟩
  | 13 => ⟨S2x32768x8x128, .i32⟩
  | 14 => ⟨S32768, .i32⟩
  | 15 => ⟨S2x1x8x128, .f32⟩
  | 16 => ⟨S_, .i32⟩
  | 17 => ⟨S32768, .i32⟩
  | 18 => ⟨S32768, .i32⟩
  | 19 => ⟨S_, .i32⟩
  | 20 => ⟨S_, .i32⟩
  | 21 => ⟨S32768, .i32⟩
  | 22 => ⟨S32768, .i32⟩
  | 23 => ⟨S32768, .i32⟩
  | 24 => ⟨S_, .i32⟩
  | 25 => ⟨S32768, .i32⟩
  | 26 => ⟨S32768, .i1⟩
  | 27 => ⟨S32768, .i32⟩
  | 28 => ⟨S32768, .i32⟩
  | 29 => ⟨S_, .i32⟩
  | 30 => ⟨S32768, .i32⟩
  | 31 => ⟨S32768, .i1⟩
  | 32 => ⟨S32768, .i1⟩
  | 33 => ⟨S_, .i32⟩
  | 34 => ⟨S32768, .i32⟩
  | 35 => ⟨S32768, .i32⟩
  | 36 => ⟨S32768, .i32⟩
  | 37 => ⟨S_, .i32⟩
  | 38 => ⟨S32768, .i32⟩
  | 39 => ⟨S32768, .i1⟩
  | 40 => ⟨S_, .i32⟩
  | 41 => ⟨S32768, .i32⟩
  | 42 => ⟨S32768, .i32⟩
  | 43 => ⟨S32768, .i32⟩
  | 44 => ⟨S32768x1, .i32⟩
  | 45 => ⟨S2x32768x8x128, .f32⟩
  | 46 => ⟨S2x32768x8x128, .f32⟩
  | 47 => ⟨S2x32768x8x128, .f32⟩
  | 48 => ⟨S2x32768x8x128, .f32⟩
  | 49 => ⟨S2x32768x8x128, .f32⟩
  | 50 => ⟨S_, .i32⟩
  | 51 => ⟨S32768, .i32⟩
  | 52 => ⟨S32768, .i32⟩
  | 53 => ⟨S_, .i32⟩
  | 54 => ⟨S32768, .i32⟩
  | 55 => ⟨S32768, .i32⟩
  | 56 => ⟨S_, .i32⟩
  | 57 => ⟨S_, .i32⟩
  | 58 => ⟨S32768, .i32⟩
  | 59 => ⟨S32768, .i32⟩
  | 60 => ⟨S32768, .i32⟩
  | 61 => ⟨S_, .i32⟩
  | 62 => ⟨S32768, .i32⟩
  | 63 => ⟨S32768, .i1⟩
  | 64 => ⟨S32768, .i32⟩
  | 65 => ⟨S32768, .i32⟩
  | 66 => ⟨S_, .i32⟩
  | 67 => ⟨S32768, .i32⟩
  | 68 => ⟨S32768, .i1⟩
  | 69 => ⟨S32768, .i1⟩
  | 70 => ⟨S_, .i32⟩
  | 71 => ⟨S32768, .i32⟩
  | 72 => ⟨S32768, .i32⟩
  | 73 => ⟨S32768, .i32⟩
  | 74 => ⟨S_, .i32⟩
  | 75 => ⟨S32768, .i32⟩
  | 76 => ⟨S32768, .i1⟩
  | 77 => ⟨S_, .i32⟩
  | 78 => ⟨S32768, .i32⟩
  | 79 => ⟨S32768, .i32⟩
  | 80 => ⟨S32768, .i32⟩
  | 81 => ⟨S32768x1, .i32⟩
  | 82 => ⟨S2x32768x8x128, .f32⟩
  | 83 => ⟨S2x32768x8x128, .f32⟩
  | 84 => ⟨S2x32768x8x128, .f32⟩
  | 85 => ⟨S2x32768x8x128, .f32⟩
  | 86 => ⟨S2x32768x8x128, .f32⟩
  | 87 => ⟨S2x32768x1x8x128, .f32⟩
  | 88 => ⟨S2x32768x1x8x128, .f32⟩
  | 89 => ⟨S2x32768x2x8x128, .f32⟩
  | 90 => ⟨S2x65536x8x128, .f32⟩
  | 91 => ⟨S2x65536x8x128, .bf16⟩
  | _ => ⟨S2x6554x8x128, .i8⟩

abbrev hbmTy (i : Nat) : BufTy := match i / 128 with
  | 0 => hbmTy0_0 i
  | 1 => hbmTy0_1 i
  | _ => ⟨S2x6554x8x128, .i8⟩

abbrev bufTy : (tb : Table) → Fin (tcTables nBuf tb) → BufTy
  | .hbm, ⟨i, _⟩ => hbmTy i
  | _, _ => ⟨S2x6554x8x128, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_c_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_5 : Ref sig .tc := ⟨.hbm, 38, rfl⟩
abbrev main_v24 : Ref sig .tc := ⟨.hbm, 39, rfl⟩
abbrev main_v25 : Ref sig .tc := ⟨.hbm, 40, rfl⟩
abbrev main_c_6 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_v5 : Ref sig .tc := ⟨.hbm, 47, rfl⟩
abbrev main_call0_v6 : Ref sig .tc := ⟨.hbm, 48, rfl⟩
abbrev main_call0_v7 : Ref sig .tc := ⟨.hbm, 49, rfl⟩
abbrev main_call0_v8 : Ref sig .tc := ⟨.hbm, 50, rfl⟩
abbrev main_call0_c : Ref sig .tc := ⟨.hbm, 51, rfl⟩
abbrev main_call0_v9 : Ref sig .tc := ⟨.hbm, 52, rfl⟩
abbrev main_call0_v10 : Ref sig .tc := ⟨.hbm, 53, rfl⟩
abbrev main_call0_v11 : Ref sig .tc := ⟨.hbm, 54, rfl⟩
abbrev main_call0_c_0 : Ref sig .tc := ⟨.hbm, 55, rfl⟩
abbrev main_call0_v12 : Ref sig .tc := ⟨.hbm, 56, rfl⟩
abbrev main_call0_v13 : Ref sig .tc := ⟨.hbm, 57, rfl⟩
abbrev main_v26 : Ref sig .tc := ⟨.hbm, 58, rfl⟩
abbrev main_c_7 : Ref sig .tc := ⟨.hbm, 59, rfl⟩
abbrev main_v27 : Ref sig .tc := ⟨.hbm, 60, rfl⟩
abbrev main_v28 : Ref sig .tc := ⟨.hbm, 61, rfl⟩
abbrev main_c_8 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_c_9 : Ref sig .tc := ⟨.hbm, 72, rfl⟩
abbrev main_v38 : Ref sig .tc := ⟨.hbm, 73, rfl⟩
abbrev main_v39 : Ref sig .tc := ⟨.hbm, 74, rfl⟩
abbrev main_c_10 : Ref sig .tc := ⟨.hbm, 75, rfl⟩
abbrev main_v40 : Ref sig .tc := ⟨.hbm, 76, rfl⟩
abbrev main_v41 : Ref sig .tc := ⟨.hbm, 77, rfl⟩
abbrev main_c_11 : Ref sig .tc := ⟨.hbm, 78, rfl⟩
abbrev main_call1_v0 : Ref sig .tc := ⟨.hbm, 79, rfl⟩
abbrev main_call1_v1 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_v5 : Ref sig .tc := ⟨.hbm, 84, rfl⟩
abbrev main_call1_v6 : Ref sig .tc := ⟨.hbm, 85, rfl⟩
abbrev main_call1_v7 : Ref sig .tc := ⟨.hbm, 86, rfl⟩
abbrev main_call1_v8 : Ref sig .tc := ⟨.hbm, 87, rfl⟩
abbrev main_call1_c : Ref sig .tc := ⟨.hbm, 88, rfl⟩
abbrev main_call1_v9 : Ref sig .tc := ⟨.hbm, 89, rfl⟩
abbrev main_call1_v10 : Ref sig .tc := ⟨.hbm, 90, rfl⟩
abbrev main_call1_v11 : Ref sig .tc := ⟨.hbm, 91, rfl⟩
abbrev main_call1_c_0 : Ref sig .tc := ⟨.hbm, 92, rfl⟩
abbrev main_call1_v12 : Ref sig .tc := ⟨.hbm, 93, rfl⟩
abbrev main_call1_v13 : Ref sig .tc := ⟨.hbm, 94, rfl⟩
abbrev main_v42 : Ref sig .tc := ⟨.hbm, 95, rfl⟩
abbrev main_c_12 : Ref sig .tc := ⟨.hbm, 96, rfl⟩
abbrev main_v43 : Ref sig .tc := ⟨.hbm, 97, rfl⟩
abbrev main_v44 : Ref sig .tc := ⟨.hbm, 98, rfl⟩
abbrev main_c_13 : Ref sig .tc := ⟨.hbm, 99, rfl⟩
abbrev main_v45 : Ref sig .tc := ⟨.hbm, 100, rfl⟩
abbrev main_v46 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_c_14 : Ref sig .tc := ⟨.hbm, 120, rfl⟩
abbrev main_v65 : Ref sig .tc := ⟨.hbm, 121, rfl⟩
abbrev main_v66 : Ref sig .tc := ⟨.hbm, 122, rfl⟩
abbrev main_c_15 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_c_16 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_c_17 : Ref sig .tc := ⟨.hbm, 131, rfl⟩
abbrev main_v73 : Ref sig .tc := ⟨.hbm, 132, rfl⟩
abbrev main_v74 : Ref sig .tc := ⟨.hbm, 133, rfl⟩
abbrev main_c_18 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_c_19 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩
abbrev main_c_20 : Ref sig .tc := ⟨.hbm, 144, rfl⟩
abbrev main_v83 : Ref sig .tc := ⟨.hbm, 145, rfl⟩
abbrev main_v84 : Ref sig .tc := ⟨.hbm, 146, rfl⟩
abbrev main_c_21 : Ref sig .tc := ⟨.hbm, 147, rfl⟩
abbrev main_call2_v0 : Ref sig .tc := ⟨.hbm, 148, rfl⟩
abbrev main_call2_v1 : Ref sig .tc := ⟨.hbm, 149, rfl⟩
abbrev main_call2_v2 : Ref sig .tc := ⟨.hbm, 150, rfl⟩
abbrev main_call2_v3 : Ref sig .tc := ⟨.hbm, 151, rfl⟩
abbrev main_call2_v4 : Ref sig .tc := ⟨.hbm, 152, rfl⟩
abbrev main_call2_v5 : Ref sig .tc := ⟨.hbm, 153, rfl⟩
abbrev main_call2_v6 : Ref sig .tc := ⟨.hbm, 154, rfl⟩
abbrev main_call2_v7 : Ref sig .tc := ⟨.hbm, 155, rfl⟩
abbrev main_call2_v8 : Ref sig .tc := ⟨.hbm, 156, rfl⟩
abbrev main_call2_c : Ref sig .tc := ⟨.hbm, 157, rfl⟩
abbrev main_call2_v9 : Ref sig .tc := ⟨.hbm, 158, rfl⟩
abbrev main_call2_v10 : Ref sig .tc := ⟨.hbm, 159, rfl⟩
abbrev main_call2_v11 : Ref sig .tc := ⟨.hbm, 160, rfl⟩
abbrev main_call2_c_0 : Ref sig .tc := ⟨.hbm, 161, rfl⟩
abbrev main_call2_v12 : Ref sig .tc := ⟨.hbm, 162, rfl⟩
abbrev main_call2_v13 : Ref sig .tc := ⟨.hbm, 163, rfl⟩
abbrev main_v85 : Ref sig .tc := ⟨.hbm, 164, rfl⟩
abbrev main_c_22 : Ref sig .tc := ⟨.hbm, 165, rfl⟩
abbrev main_v86 : Ref sig .tc := ⟨.hbm, 166, rfl⟩
abbrev main_v87 : Ref sig .tc := ⟨.hbm, 167, rfl⟩
abbrev main_c_23 : Ref sig .tc := ⟨.hbm, 168, rfl⟩
abbrev main_v88 : Ref sig .tc := ⟨.hbm, 169, rfl⟩
abbrev main_v89 : Ref sig .tc := ⟨.hbm, 170, rfl⟩
abbrev main_v90 : Ref sig .tc := ⟨.hbm, 171, rfl⟩
abbrev main_v91 : Ref sig .tc := ⟨.hbm, 172, rfl⟩
abbrev main_v92 : Ref sig .tc := ⟨.hbm, 173, rfl⟩
abbrev main_v93 : Ref sig .tc := ⟨.hbm, 174, rfl⟩
abbrev main_v94 : Ref sig .tc := ⟨.hbm, 175, rfl⟩
abbrev main_v95 : Ref sig .tc := ⟨.hbm, 176, rfl⟩
abbrev main_v96 : Ref sig .tc := ⟨.hbm, 177, rfl⟩
abbrev main_c_24 : Ref sig .tc := ⟨.hbm, 178, rfl⟩
abbrev main_v97 : Ref sig .tc := ⟨.hbm, 179, rfl⟩
abbrev main_v98 : Ref sig .tc := ⟨.hbm, 180, rfl⟩
abbrev main_c_25 : Ref sig .tc := ⟨.hbm, 181, rfl⟩
abbrev main_v99 : Ref sig .tc := ⟨.hbm, 182, rfl⟩
abbrev main_v100 : Ref sig .tc := ⟨.hbm, 183, rfl⟩
abbrev main_c_26 : Ref sig .tc := ⟨.hbm, 184, rfl⟩
abbrev main_call3_v0 : Ref sig .tc := ⟨.hbm, 185, rfl⟩
abbrev main_call3_v1 : Ref sig .tc := ⟨.hbm, 186, rfl⟩
abbrev main_call3_v2 : Ref sig .tc := ⟨.hbm, 187, rfl⟩
abbrev main_call3_v3 : Ref sig .tc := ⟨.hbm, 188, rfl⟩
abbrev main_call3_v4 : Ref sig .tc := ⟨.hbm, 189, rfl⟩
abbrev main_call3_v5 : Ref sig .tc := ⟨.hbm, 190, rfl⟩
abbrev main_call3_v6 : Ref sig .tc := ⟨.hbm, 191, rfl⟩
abbrev main_call3_v7 : Ref sig .tc := ⟨.hbm, 192, rfl⟩
abbrev main_call3_v8 : Ref sig .tc := ⟨.hbm, 193, rfl⟩
abbrev main_call3_c : Ref sig .tc := ⟨.hbm, 194, rfl⟩
abbrev main_call3_v9 : Ref sig .tc := ⟨.hbm, 195, rfl⟩
abbrev main_call3_v10 : Ref sig .tc := ⟨.hbm, 196, rfl⟩
abbrev main_call3_v11 : Ref sig .tc := ⟨.hbm, 197, rfl⟩
abbrev main_call3_c_0 : Ref sig .tc := ⟨.hbm, 198, rfl⟩
abbrev main_call3_v12 : Ref sig .tc := ⟨.hbm, 199, rfl⟩
abbrev main_call3_v13 : Ref sig .tc := ⟨.hbm, 200, rfl⟩
abbrev main_v101 : Ref sig .tc := ⟨.hbm, 201, rfl⟩
abbrev main_c_27 : Ref sig .tc := ⟨.hbm, 202, rfl⟩
abbrev main_v102 : Ref sig .tc := ⟨.hbm, 203, rfl⟩
abbrev main_v103 : Ref sig .tc := ⟨.hbm, 204, rfl⟩
abbrev main_c_28 : Ref sig .tc := ⟨.hbm, 205, rfl⟩
abbrev main_v104 : Ref sig .tc := ⟨.hbm, 206, rfl⟩
abbrev main_v105 : Ref sig .tc := ⟨.hbm, 207, rfl⟩
abbrev main_v106 : Ref sig .tc := ⟨.hbm, 208, rfl⟩
abbrev main_v107 : Ref sig .tc := ⟨.hbm, 209, rfl⟩
abbrev main_v108 : Ref sig .tc := ⟨.hbm, 210, rfl⟩
abbrev main_v109 : Ref sig .tc := ⟨.hbm, 211, rfl⟩
abbrev main_v110 : Ref sig .tc := ⟨.hbm, 212, rfl⟩
abbrev main_v111 : Ref sig .tc := ⟨.hbm, 213, rfl⟩
abbrev main_v112 : Ref sig .tc := ⟨.hbm, 214, rfl⟩
abbrev main_v113 : Ref sig .tc := ⟨.hbm, 215, rfl⟩
abbrev main_v114 : Ref sig .tc := ⟨.hbm, 216, rfl⟩
abbrev main_v115 : Ref sig .tc := ⟨.hbm, 217, rfl⟩
abbrev main_v116 : Ref sig .tc := ⟨.hbm, 218, rfl⟩
abbrev main_v117 : Ref sig .tc := ⟨.hbm, 219, rfl⟩

abbrev nD : Nat := 1
abbrev τ : Topo := Topo.v7x

variable {F : FTy → Type} [FloatOps F]
-- ==== Proof.KernelBody.lean ====
/-
  The launch of the rounded program: its grid of 52 points terminates without a fault, from any memory whose semaphore
  counters are zero, and leaves every argument array and every counter as it found them. Nothing is said here of the two
  results (the proof data forgets their windows). The last block along the rows overhangs its array, so the windows of the
  anchors, the deltas and the results are described only on the rows inside the array.
-/
module

public import proofs.«01_k».proof.Proof.Gen.Kernel.Launch
public import proofs.«01_k».proof.Proof.Gen.Kernel.Points
public import proofs.«01_k».proof.Proof.Gen.Kernel.Frame
public import proofs.«01_k».proof.Proof.Gen.Kernel.Loops
public import Idealize.ShloMosaic.Lib.Pipeline.FrameSuffix
public import Idealize.ShloMosaic.Lib.Tactic

@[expose] public section

noncomputable section

namespace Cert.KernelProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [BitOps F]

local notation "𝕄" => MT nD τ sig Unit (Elt F) ℕ (UR sig nD τ) ℕ

/-- THE KERNEL BODY on any ten staging buffers: the two loops run through, the eight inputs keep their contents, and the
    two results end at some contents. -/
theorem body_run (c : Dev nD) (i : grid0.Coords)
    (arg2 : Memref sig .tc .vmem S1x2048x128 .i8) (harg2 : arg2.IsWhole)
    (arg3 : Memref sig .tc .vmem S1x8x128 .f32) (harg3 : arg3.IsWhole)
    (arg4 : Memref sig .tc .vmem S1x10240x128 .i8) (harg4 : arg4.IsWhole)
    (arg5 : Memref sig .tc .vmem S1x8x128 .f32) (harg5 : arg5.IsWhole)
    (arg6 : Memref sig .tc .vmem S1x2048x128 .i8) (harg6 : arg6.IsWhole)
    (arg7 : Memref sig .tc .vmem S1x8x128 .f32) (harg7 : arg7.IsWhole)
    (arg8 : Memref sig .tc .vmem S1x10240x128 .i8) (harg8 : arg8.IsWhole)
    (arg9 : Memref sig .tc .vmem S1x8x128 .f32) (harg9 : arg9.IsWhole)
    (arg10 : Memref sig .tc .vmem S1x20480x128 .bf16) (harg10 : arg10.IsWhole)
    (arg11 : Memref sig .tc .vmem S1x20480x128 .bf16) (harg11 : arg11.IsWhole)
    (f2 : BufTy.Contents (Elt F) arg2.view.ty)
    (f3 : BufTy.Contents (Elt F) arg3.view.ty)
    (f4 : BufTy.Contents (Elt F) arg4.view.ty)
    (f5 : BufTy.Contents (Elt F) arg5.view.ty)
    (f6 : BufTy.Contents (Elt F) arg6.view.ty)
    (f7 : BufTy.Contents (Elt F) arg7.view.ty)
    (f8 : BufTy.Contents (Elt F) arg8.view.ty)
    (f9 : BufTy.Contents (Elt F) arg9.view.ty)
    (f10 : BufTy.Contents (Elt F) arg10.view.ty)
    (f11 : BufTy.Contents (Elt F) arg11.view.ty) (K : PUnit → sProp 𝕄) :
    iprop(((arg2.view.loc (c : Thread nD τ) ↦[arg2.view.set]{fullShare} f2)
      ∗ (arg3.view.loc (c : Thread nD τ) ↦[arg3.view.set]{fullShare} f3)
      ∗ (arg4.view.loc (c : Thread nD τ) ↦[arg4.view.set]{fullShare} f4)
      ∗ (arg5.view.loc (c : Thread nD τ) ↦[arg5.view.set]{fullShare} f5)
      ∗ (arg6.view.loc (c : Thread nD τ) ↦[arg6.view.set]{fullShare} f6)
      ∗ (arg7.view.loc (c : Thread nD τ) ↦[arg7.view.set]{fullShare} f7)
      ∗ (arg8.view.loc (c : Thread nD τ) ↦[arg8.view.set]{fullShare} f8)
      ∗ (arg9.view.loc (c : Thread nD τ) ↦[arg9.view.set]{fullShare} f9)
      ∗ (arg10.view.loc (c : Thread nD τ) ↦[arg10.view.set]{fullShare} f10)
      ∗ (arg11.view.loc (c : Thread nD τ) ↦[arg11.view.set]{fullShare} f11))
      ∗ (iprop((arg2.view.loc (c : Thread nD τ) ↦[arg2.view.set]{fullShare} f2)
      ∗ (arg3.view.loc (c : Thread nD τ) ↦[arg3.view.set]{fullShare} f3)
      ∗ (arg4.view.loc (c : Thread nD τ) ↦[arg4.view.set]{fullShare} f4)
      ∗ (arg5.view.loc (c : Thread nD τ) ↦[arg5.view.set]{fullShare} f5)
      ∗ (arg6.view.loc (c : Thread nD τ) ↦[arg6.view.set]{fullShare} f6)
      ∗ (arg7.view.loc (c : Thread nD τ) ↦[arg7.view.set]{fullShare} f7)
      ∗ (arg8.view.loc (c : Thread nD τ) ↦[arg8.view.set]{fullShare} f8)
      ∗ (arg9.view.loc (c : Thread nD τ) ↦[arg9.view.set]{fullShare} f9)
      ∗ (∃ g, (arg10.view.loc (c : Thread nD τ) ↦[arg10.view.set]{fullShare} g))
      ∗ (∃ g, (arg11.view.loc (c : Thread nD τ) ↦[arg11.view.set]{fullShare} g))) -∗ K ⟨⟩))
      ⊢ wp frame (wpE (defs₀ (F := F)) Variants.none (c : Thread nD τ) none) Set.univ
          (cc0_anchor_delta_decode (F := F) i arg2 harg2 arg3 harg3 arg4 harg4 arg5 harg5 arg6 harg6 arg7 harg7 arg8 harg8 arg9 harg9 arg10 harg10 arg11 harg11) K := by
  simp only [cc0_anchor_delta_decode_eq_skeleton]; unfold cc0_anchor_delta_decode_skel
  iintro ⟨⟨H2, H3, H4, H5, H6, H7, H8, H9, H10, H11⟩, Hk⟩
  sl_exec
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · iexists _; iexact H10
  · iexists _; iexact H11

variable (m : (ℓ : Loc nD τ sig) → Buf (Elt F) ℓ) (ρ : Dev nD → PrngReg)

/-- The proof data: the arrays as the region finds them; after the body each input buffer holds its block (on the rows
    inside the array; a zero word past them), the results' whatever (their windows are forgotten). -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => (0#8 : BitVec 8)) (iblk m c 0 t)
    | ⟨1, _⟩ => iblk m c 1 t
    | ⟨2, _⟩ => win0_2.fill (grid0.coords t) (fun _ => (0#8 : BitVec 8)) (iblk m c 2 t)
    | ⟨3, _⟩ => iblk m c 3 t
    | ⟨4, _⟩ => win0_4.fill (grid0.coords t) (fun _ => (0#8 : BitVec 8)) (iblk m c 4 t)
    | ⟨5, _⟩ => iblk m c 5 t
    | ⟨6, _⟩ => win0_6.fill (grid0.coords t) (fun _ => (0#8 : BitVec 8)) (iblk m c 6 t)
    | ⟨7, _⟩ => iblk m c 7 t
    | ⟨8, _⟩ => fun _ => Scalar.ofBits .bf16 0#16
    | ⟨9, _⟩ => fun _ => Scalar.ofBits .bf16 0#16
  Φ _ := Pipeline.ΦA spec0 c
  q _ := fullShare
  owed _ := 0

/-- Nothing is said of the two results' windows. -/
def forgets : Fin cfg0.W → Bool := ![false, false, false, false, false, false, false, false, true, true]

theorem A_eq (c : Dev nD) (w : Fin cfg0.W) : (dats m 0 c).A w = V m c (Pipeline.arrRef spec0 w) := rfl

theorem before_0 (c : Dev nD) (t : Fin cfg0.N) (d) :
    (dats m 0 c).before 0 t d = win0_0.fill (grid0.coords t) d (iblk m c 0 t) := by
  unfold Dat.before; rw [if_pos (fetch0_0 t)]; rfl
theorem before_2 (c : Dev nD) (t : Fin cfg0.N) (d) :
    (dats m 0 c).before 2 t d = win0_2.fill (grid0.coords t) d (iblk m c 2 t) := by
  unfold Dat.before; rw [if_pos (fetch0_2 t)]; rfl
theorem before_4 (c : Dev nD) (t : Fin cfg0.N) (d) :
    (dats m 0 c).before 4 t d = win0_4.fill (grid0.coords t) d (iblk m c 4 t) := by
  unfold Dat.before; rw [if_pos (fetch0_4 t)]; rfl
theorem before_6 (c : Dev nD) (t : Fin cfg0.N) (d) :
    (dats m 0 c).before 6 t d = win0_6.fill (grid0.coords t) d (iblk m c 6 t) := by
  unfold Dat.before; rw [if_pos (fetch0_6 t)]; rfl
theorem before_1 (c : Dev nD) (t : Fin cfg0.N) (d) : (dats m 0 c).before 1 t d = iblk m c 1 t :=
  before0_1_of m (dats m 0 c) (A_eq m c 1) (fun _ => rfl) t d
theorem before_3 (c : Dev nD) (t : Fin cfg0.N) (d) : (dats m 0 c).before 3 t d = iblk m c 3 t :=
  before0_3_of m (dats m 0 c) (A_eq m c 3) (fun _ => rfl) t d
theorem before_5 (c : Dev nD) (t : Fin cfg0.N) (d) : (dats m 0 c).before 5 t d = iblk m c 5 t :=
  before0_5_of m (dats m 0 c) (A_eq m c 5) (fun _ => rfl) t d
theorem before_7 (c : Dev nD) (t : Fin cfg0.N) (d) : (dats m 0 c).before 7 t d = iblk m c 7 t :=
  before0_7_of m (dats m 0 c) (A_eq m c 7) (fun _ => rfl) t d

/-- The body the pipeline calls at point `t` is the kernel at that point's staging buffers. -/
theorem defs₀_row (t : Fin cfg0.N) :
    defs₀ (F := F) .tc cfg0.body (cfg0.bodyArgs t (cfg0.slots t)) = bodyAt0 t := by
  unfold defs₀; rw [Defs.onTc_tc]

theorem leaves_0 (c : Dev nD) (t : Fin cfg0.N) (d) :
    win0_0.fill (grid0.coords t) d (win0_0.cut (grid0.coords t) ((dats m 0 c).after 0 t)) = win0_0.fill (grid0.coords t) d (iblk m c 0 t) :=
  congrArg (win0_0.fill (grid0.coords t) d) (win0_0.cut_fill _ _ _)
theorem leaves_2 (c : Dev nD) (t : Fin cfg0.N) (d) :
    win0_2.fill (grid0.coords t) d (win0_2.cut (grid0.coords t) ((dats m 0 c).after 2 t)) = win0_2.fill (grid0.coords t) d (iblk m c 2 t) :=
  congrArg (win0_2.fill (grid0.coords t) d) (win0_2.cut_fill _ _ _)
theorem leaves_4 (c : Dev nD) (t : Fin cfg0.N) (d) :
    win0_4.fill (grid0.coords t) d (win0_4.cut (grid0.coords t) ((dats m 0 c).after 4 t)) = win0_4.fill (grid0.coords t) d (iblk m c 4 t) :=
  congrArg (win0_4.fill (grid0.coords t) d) (win0_4.cut_fill _ _ _)
theorem leaves_6 (c : Dev nD) (t : Fin cfg0.N) (d) :
    win0_6.fill (grid0.coords t) d (win0_6.cut (grid0.coords t) ((dats m 0 c).after 6 t)) = win0_6.fill (grid0.coords t) d (iblk m c 6 t) :=
  congrArg (win0_6.fill (grid0.coords t) d) (win0_6.cut_fill _ _ _)

/-- The kernel body at point `t`, each staging buffer as the pipeline hands it over and as it takes it back. -/
theorem sound_body (c : Dev nD) (t : Fin cfg0.N) :
    iprop((dats m 0 c).Φ t.castSucc ∗ (dats m 0 c).owesAt () t.castSucc
      ∗ iprop(∃ d, owns (c : Thread nD τ) (st0_0 t) fullShare ((dats m 0 c).before 0 t d))
      ∗ iprop(∃ d, owns (c : Thread nD τ) (st0_1 t) fullShare ((dats m 0 c).before 1 t d))
      ∗ iprop(∃ d, owns (c : Thread nD τ) (st0_2 t) fullShare ((dats m 0 c).before 2 t d))
      ∗ iprop(∃ d, owns (c : Thread nD τ) (st0_3 t) fullShare ((dats m 0 c).before 3 t d))
      ∗ iprop(∃ d, owns (c : Thread nD τ) (st0_4 t) fullShare ((dats m 0 c).before 4 t d))
      ∗ iprop(∃ d, owns (c : Thread nD τ) (st0_5 t) fullShare ((dats m 0 c).before 5 t d))
      ∗ iprop(∃ d, owns (c : Thread nD τ) (st0_6 t) fullShare ((dats m 0 c).before 6 t d))
      ∗ iprop(∃ d, owns (c : Thread nD τ) (st0_7 t) fullShare ((dats m 0 c).before 7 t d))
      ∗ iprop(∃ X, owns (c : Thread nD τ) (st0_8 t) fullShare X)
      ∗ iprop(∃ X, owns (c : Thread nD τ) (st0_9 t) fullShare X))
    ⊢ wp frame (wpE (defs₀ (F := F)) Variants.none (c : Thread nD τ) none) Set.univ (bodyAt0 (F := F) t) (fun _ =>
      iprop((dats m 0 c).Φ t.succ ∗ (dats m 0 c).owesAt () t.succ
      ∗ iprop(∃ d, owns (c : Thread nD τ) (st0_0 t) fullShare (win0_0.fill (grid0.coords t) d (win0_0.cut (grid0.coords t) ((dats m 0 c).after 0 t))))
      ∗ owns (c : Thread nD τ) (st0_1 t) fullShare ((dats m 0 c).after 1 t)
      ∗ iprop(∃ d, owns (c : Thread nD τ) (st0_2 t) fullShare (win0_2.fill (grid0.coords t) d (win0_2.cut (grid0.coords t) ((dats m 0 c).after 2 t))))
      ∗ owns (c : Thread nD τ) (st0_3 t) fullShare ((dats m 0 c).after 3 t)
      ∗ iprop(∃ d, owns (c : Thread nD τ) (st0_4 t) fullShare (win0_4.fill (grid0.coords t) d (win0_4.cut (grid0.coords t) ((dats m 0 c).after 4 t))))
      ∗ owns (c : Thread nD τ) (st0_5 t) fullShare ((dats m 0 c).after 5 t)
      ∗ iprop(∃ d, owns (c : Thread nD τ) (st0_6 t) fullShare (win0_6.fill (grid0.coords t) d (win0_6.cut (grid0.coords t) ((dats m 0 c).after 6 t))))
      ∗ owns (c : Thread nD τ) (st0_7 t) fullShare ((dats m 0 c).after 7 t)
      ∗ iprop(∃ X, owns (c : Thread nD τ) (st0_8 t) fullShare X)
      ∗ iprop(∃ X, owns (c : Thread nD τ) (st0_9 t) fullShare X))) := by
  simp only [before_0, before_1, before_2, before_3, before_4, before_5, before_6, before_7, owns]
  rw [show (dats m 0 c).Φ t.succ = (dats m 0 c).Φ t.castSucc from rfl,
    show (dats m 0 c).owesAt () t.succ = (dats m 0 c).owesAt () t.castSucc from rfl]
  iintro ⟨HΦ, Ho, ⟨%d0, %f0, %h0, H0⟩, ⟨%d1, %f1, %h1, H1⟩, ⟨%d2, %f2, %h2, H2⟩, ⟨%d3, %f3, %h3, H3⟩, ⟨%d4, %f4, %h4, H4⟩,
    ⟨%d5, %f5, %h5, H5⟩, ⟨%d6, %f6, %h6, H6⟩, ⟨%d7, %f7, %h7, H7⟩, ⟨%X8, %f8, %h8, H8⟩, ⟨%X9, %f9, %h9, H9⟩⟩
  iapply (body_run c (grid0.coords t) _ _ _ _ _ _ _ _ _ _ _ _ _ _ _ _ _ _ _ _ f0 f1 f2 f3 f4 f5 f6 f7 f8 f9 _)
  isplitl [H0 H1 H2 H3 H4 H5 H6 H7 H8 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · iintro ⟨H0, H1, H2, H3, H4, H5, H6, H7, ⟨%g8, H8⟩, ⟨%g9, H9⟩⟩
    isplitl [HΦ]; · iexact HΦ
    isplitl [Ho]; · iexact Ho
    isplitl [H0]
    · iexists d0, f0; isplitr; · ipureintro; exact h0.trans (leaves_0 m c t d0).symm
      iexact H0
    isplitl [H1]
    · iexists f1; isplitr; · ipureintro; exact h1
      iexact H1
    isplitl [H2]
    · iexists d2, f2; isplitr; · ipureintro; exact h2.trans (leaves_2 m c t d2).symm
      iexact H2
    isplitl [H3]
    · iexists f3; isplitr; · ipureintro; exact h3
      iexact H3
    isplitl [H4]
    · iexists d4, f4; isplitr; · ipureintro; exact h4.trans (leaves_4 m c t d4).symm
      iexact H4
    isplitl [H5]
    · iexists f5; isplitr; · ipureintro; exact h5
      iexact H5
    isplitl [H6]
    · iexists d6, f6; isplitr; · ipureintro; exact h6.trans (leaves_6 m c t d6).symm
      iexact H6
    isplitl [H7]
    · iexists f7; isplitr; · ipureintro; exact h7
      iexact H7
    isplitl [H8]
    · iexists _, g8; isplitr; · ipureintro; rfl
      iexact H8
    · iexists _, g9; isplitr; · ipureintro; rfl
      iexact H9

/-- The body obligation, the two results' windows forgotten. -/
theorem body_obligation (c : Dev nD) :
    BodyObligationLoose (dats (F := F) m 0 c) defs₀ Variants.none () Set.univ forgets := fun t => by
  rw [bigSep_W0, bigSep_W0, defs₀_row]
  exact triple_restated (sound_body m c t) rfl .rfl fun _ => .rfl

end Cert.KernelProof

end
-- ==== Proof.KernelFrame.lean ====
/-
  The launch of the rounded program: its grid of 52 points terminates without a fault, from any memory whose semaphore
  counters are zero, and leaves every argument array and every counter as it found them. Nothing is said here of the two
  results (the proof data forgets their windows). The last block along the rows overhangs its array, so the windows of the
  anchors, the deltas and the results are described only on the rows inside the array.
-/
module

public import proofs.«01_k».proof.Proof.KernelBody
public import proofs.«01_k».proof.Proof.Gen.Kernel.Launch
public import proofs.«01_k».proof.Proof.Gen.Kernel.Points
public import proofs.«01_k».proof.Proof.Gen.Kernel.Frame
public import proofs.«01_k».proof.Proof.Gen.Kernel.Loops
public import Idealize.ShloMosaic.Lib.Pipeline.FrameSuffix
public import Idealize.ShloMosaic.Lib.Tactic

@[expose] public section

noncomputable section

namespace Cert.KernelProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The buffers the lines after the region write: the two results. -/
def T0 : Finset (Ref sig .tc) := {main_v5, main_v6}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl
    all_goals
      intro b hb
      simp only [StableHlo.reshape_writes, Finset.mem_singleton] at hb
      cases Proc.devRef_injective _ hb; decide

set_option backward.isDefEq.respectTransparency.types false in
set_option maxHeartbeats 4000000 in
/-- THE RUN: every execution of @main terminates with every argument array and every semaphore counter as launched. -/
theorem run_frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  Pipeline.θ_run_frame_around_T_forget cfgs (dats m) (0 : Fin 1) launch0 defs₀ Variants.none forgets T0 m ρ main
    (hbody := fun c => body_obligation m c) (hshare := fun c => (dats m 0 c).share_full fun _ => rfl)
    (howed := fun _ _ => rfl) (V₀ := V0 m) (opss := [hostOps1]) (hsub := sfx_sub) (hfresh := sfx_fresh)
    (hkeep := sfx_keeps) (hT := sfx_writes) (hmain := hmain m Variants.none) (hA := A_eq m) (hΦ := fun _ _ => rfl)
    (Q' := _) (hQ' := fun r h => ⟨fun c =>
      ⟨((h.1 c).2 main_arg0 (by decide)).trans (V_main_arg0 m c),
       (Pipeline.RDat.FramePostR.arr_in h.1 c 1 rfl).trans (V_main_arg1 m c),
       ((h.1 c).2 main_arg2 (by decide)).trans (V_main_arg2 m c),
       (Pipeline.RDat.FramePostR.arr_in h.1 c 3 rfl).trans (V_main_arg3 m c),
       ((h.1 c).2 main_arg4 (by decide)).trans (V_main_arg4 m c),
       (Pipeline.RDat.FramePostR.arr_in h.1 c 5 rfl).trans (V_main_arg5 m c),
       ((h.1 c).2 main_arg6 (by decide)).trans (V_main_arg6 m c),
       (Pipeline.RDat.FramePostR.arr_in h.1 c 7 rfl).trans (V_main_arg7 m c)⟩, h.2⟩)

end Cert.KernelProof

end
-- ==== Proof.Chunk.lean ====
/-
  One trip of a stream's loop as a value, over the extended reals: 32 anchor rows and 160 delta rows (eight rows are one
  token's eight heads) become 320 result rows. The 320 rows are forty tiles of eight heads, `tile q` for token `q` of the
  chunk; token `q` reads the delta row of its pair `q / 2` at parity `q % 2` and the anchor of its group `q / 10`.
  The trip's payload in both loops is this one function (`v207_t1`, `v207_t2`), and `chunk_apply` reads it at an element.
-/
module

public import proofs.«01_k».proof.Proof.Gen.KernelIdeal.Loops
public import Idealize.ShloMosaic.Lib.Pipeline.Value
public import Idealize.ShloMosaic.Lib.Pointwise
public import Idealize.ShloMosaic.PureOps.Ideal

@[expose] public section

set_option maxRecDepth 16384

noncomputable section

namespace Cert.KernelIdealProof

open Cert.KernelIdeal Cert.KernelIdeal.Gen
open Idealize.ShloMosaic

/-- The nibble of parity `p` (0 the low one, 1 the high one) of a byte, as a signed 4-bit word: the byte widened, shifted so
    that the nibble is at the top, shifted back down with its sign, cut to four bits. -/
def nibWord (p : ℕ) (b : BitVec 8) : BitVec 4 :=
  if p = 0 then (((b.setWidth 32) <<< 28).sshiftRight 28).setWidth 4 else (((b.setWidth 32) <<< 24).sshiftRight 28).setWidth 4

variable {F : FTy → Type} [FloatOps F]

theorem tile_slices : ∀ q : Fin 40, S160x128.Slices ![8 * (q.val / 2), 0] S8x128 := by decide
theorem tile_group : ∀ q : Fin 40, S4x8x128.Slices ![q.val / 10, 0, 0] S1x8x128 := by decide

/-- Token `q`'s tile of a chunk: its delta row (the even or the odd nibbles) times the delta scale, plus its group's anchor. -/
def tile (v3 : FVec F S8x128 .f32) (v19 : FVec F S4x8x128 .f32) (lo hi : FVec F S160x128 .f32) (q : Fin 40) : FVec F S8x128 .f32 :=
  addf (mulf (extractStridedSlice S8x128 ![8 * (q.val / 2), 0] (if q.val % 2 = 0 then lo else hi) (tile_slices q)) v3)
    (shapeCast S8x128 (extractStridedSlice S1x8x128 ![q.val / 10, 0, 0] v19 (tile_group q)) shapeCasts_S1x8x128_S8x128)

theorem tiles_concatenate {α : Type} (f : Fin 40 → (S8x128.Idx → α)) :
    Shape.Concatenates ((List.ofFn fun q : Fin 40 => (⟨S8x128, f q⟩ : (s : Shape) × (s.Idx → α))).map (·.1)) S320x128 0 :=
  concatenates_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S320x128_d0

/-- The forty tiles laid one below the other. -/
def chunk (v0 : Vec F S1x8x128 .f32) (v3 : FVec F S8x128 .f32) (v13 : Vec F S1x32x128 .i8) (v23 : Vec F S1x160x128 .i8) :
    FVec F S320x128 .f32 :=
  concatenate S320x128 0 (List.ofFn fun q : Fin 40 => (⟨S8x128, tile v3 (k0_pay27 (k0_pay1 v0) v13) (k0_pay29 v23) (k0_pay30 v23) q⟩ : (s : Shape) × (s.Idx → F .f32)))
    (tiles_concatenate _)

/-- The first loop's trip computes `chunk` of its scales and of the rows it loads. -/
theorem v207_t1 (arg2 : Memref sig .tc .vmem S1x2048x128 .i8) (arg4 : Memref sig .tc .vmem S1x10240x128 .i8)
    (v0 : Vec F S1x8x128 .f32) (v3 : FVec F S8x128 .f32) (f2 : BufTy.Contents (Elt F) arg2.view.ty)
    (f4 : BufTy.Contents (Elt F) arg4.view.ty) (k : Fin k0_t1_loop.trips) :
    trip_k0_t1.sl.v207 arg2 arg4 v0 v3 f2 f4 k
      = chunk v0 v3 (arg2.view.readAt (Elt F) (Rect.unit (s := S1x2048x128) (k0_off1 k) S1x32x128.size (k0_off1_inb k)).toLoadRect f2)
          (arg4.view.readAt (Elt F) (Rect.unit (s := S1x10240x128) (k0_off2 k) S1x160x128.size (k0_off2_inb k)).toLoadRect f4) := rfl

/-- The second loop's trip computes the same `chunk`. -/
theorem v207_t2 (arg6 : Memref sig .tc .vmem S1x2048x128 .i8) (arg8 : Memref sig .tc .vmem S1x10240x128 .i8)
    (v5 : Vec F S1x8x128 .f32) (v8 : FVec F S8x128 .f32) (f6 : BufTy.Contents (Elt F) arg6.view.ty)
    (f8 : BufTy.Contents (Elt F) arg8.view.ty) (k : Fin k0_t2_loop.trips) :
    trip_k0_t2.sl.v207 arg6 arg8 v5 v8 f6 f8 k
      = chunk v5 v8 (arg6.view.readAt (Elt F) (Rect.unit (s := S1x2048x128) (k0_off4 k) S1x32x128.size (k0_off4_inb k)).toLoadRect f6)
          (arg8.view.readAt (Elt F) (Rect.unit (s := S1x10240x128) (k0_off5 k) S1x160x128.size (k0_off5_inb k)).toLoadRect f8) := rfl

section Values

/-- A chunk's anchors, dequantized: the int8 code times its head's scale. -/
theorem anchor_apply (v0 : Vec Ideal S1x8x128 .f32) (v13 : Vec Ideal S1x32x128 .i8) (g : Fin 4) (h : Fin 8) (l : Fin 128) :
    k0_pay27 (F := Ideal) (k0_pay1 v0) v13 (ix3 g h l)
      = (((v13 (ix3 0 ⟨8 * g.val + h.val, by omega⟩ l) : BitVec 8).toInt : ℝ) : EReal) * v0 (ix3 0 h l) := by
  pointwise [k0_pay27, k0_pay1]
  have e : (⟨g.val * 8 + h.val, by omega⟩ : Fin 32) = ⟨8 * g.val + h.val, by omega⟩ := Fin.ext (by simp only; omega)
  rw [e]; rfl

theorem shift_lo : ∀ b : BitVec 8, BitVec.setWidth 4 (IntOp.shrsi ArithUnit.vector (IntOp.shli ArithUnit.vector (BitVec.setWidth 32 b) 28#32) 28#32)
    = nibWord 0 b := by decide
theorem shift_hi : ∀ b : BitVec 8, BitVec.setWidth 4 (IntOp.shrsi ArithUnit.vector (IntOp.shli ArithUnit.vector (BitVec.setWidth 32 b) 24#32) 28#32)
    = nibWord 1 b := by decide

/-- A chunk's even rows of nibbles are the bytes' low nibbles. -/
theorem lo_apply (v23 : Vec Ideal S1x160x128 .i8) (r : Fin 160) (l : Fin 128) :
    k0_pay29 (F := Ideal) v23 (ix2 r l) = (((nibWord 0 (v23 (ix3 0 r l))).toInt : ℝ) : EReal) := by
  pointwise [k0_pay29, k0_pay28]
  rw [dif_pos (by omega)]
  exact congrArg (fun b : BitVec 4 => ((b.toInt : ℝ) : EReal)) (shift_lo _)

/-- A chunk's odd rows of nibbles are the bytes' high nibbles. -/
theorem hi_apply (v23 : Vec Ideal S1x160x128 .i8) (r : Fin 160) (l : Fin 128) :
    k0_pay30 (F := Ideal) v23 (ix2 r l) = (((nibWord 1 (v23 (ix3 0 r l))).toInt : ℝ) : EReal) := by
  pointwise [k0_pay30, k0_pay28]
  rw [dif_neg (by omega)]
  exact congrArg (fun b : BitVec 4 => ((b.toInt : ℝ) : EReal)) (shift_hi _)

theorem tile_apply (v3 : FVec Ideal S8x128 .f32) (v19 : FVec Ideal S4x8x128 .f32) (lo hi : FVec Ideal S160x128 .f32) (q : Fin 40)
    (h : Fin 8) (l : Fin 128) :
    tile v3 v19 lo hi q (ix2 h l)
      = (if q.val % 2 = 0 then lo else hi) (ix2 ⟨8 * (q.val / 2) + h.val, by omega⟩ l) * v3 (ix2 h l) + v19 (ix3 ⟨q.val / 10, by omega⟩ h l) := by
  unfold tile
  pointwise

/-- THE CHUNK at row `r` (token `r / 8`, head `r % 8`), lane `l`: the nibble of the delta row of the token's pair times the
    delta scale, plus the group's anchor code times the anchor scale. -/
theorem chunk_apply (v0 v2 : Vec Ideal S1x8x128 .f32) (v13 : Vec Ideal S1x32x128 .i8) (v23 : Vec Ideal S1x160x128 .i8)
    (r : Fin 320) (l : Fin 128) :
    chunk (F := Ideal) v0 (shapeCast S8x128 v2 shapeCasts_S1x8x128_S8x128) v13 v23 (ix2 r l)
      = (((nibWord (r.val / 8 % 2) (v23 (ix3 0 ⟨8 * (r.val / 16) + r.val % 8, by omega⟩ l))).toInt : ℝ) : EReal)
            * v2 (ix3 0 ⟨r.val % 8, by omega⟩ l)
          + (((v13 (ix3 0 ⟨8 * (r.val / 80) + r.val % 8, by omega⟩ l) : BitVec 8).toInt : ℝ) : EReal)
            * v0 (ix3 0 ⟨r.val % 8, by omega⟩ l) := by
  unfold chunk
  refine (concatenate_ofFn_apply (s₁ := S8x128) (t := S320x128) 0
    (fun q : Fin 40 => tile (shapeCast S8x128 v2 shapeCasts_S1x8x128_S8x128) (k0_pay27 (k0_pay1 v0) v13) (k0_pay29 v23) (k0_pay30 v23) q)
    (tiles_concatenate _) rfl 8 rfl (ix2 r l) ⟨r.val / 8, by omega⟩ rfl
    (ix2 ⟨r.val % 8, by omega⟩ l) rfl (fun b hb => by fin_cases b; exacts [absurd rfl hb, rfl])).trans ?_
  rw [tile_apply, anchor_apply]
  have e2 : (shapeCast S8x128 v2 shapeCasts_S1x8x128_S8x128) (ix2 ⟨r.val % 8, by omega⟩ l) = v2 (ix3 0 ⟨r.val % 8, by omega⟩ l) := by
    pointwise
  rw [e2]
  have e80 : (⟨8 * (r.val / 8 / 10) + r.val % 8, by omega⟩ : Fin 32) = ⟨8 * (r.val / 80) + r.val % 8, by omega⟩ := Fin.ext (by simp only; omega)
  have e16 : (⟨8 * (r.val / 8 / 2) + r.val % 8, by omega⟩ : Fin 160) = ⟨8 * (r.val / 16) + r.val % 8, by omega⟩ := Fin.ext (by simp only; omega)
  rw [e80, e16]
  rcases Nat.mod_two_eq_zero_or_one (r.val / 8) with h | h
  · rw [if_pos h, h, lo_apply]
  · rw [if_neg (show ¬(r.val / 8 % 2 = 0) by omega), h, hi_apply]

end Values

end Cert.KernelIdealProof

end
-- ==== Proof.Block.lean ====
/-
  What one run of the exact kernel's body leaves in a result's staging buffer, as a closed form of the rows it read. The
  64 chunks of a block write 320 rows each, one below the other; row `R` of a block is token `R / 8` of the block, head
  `R % 8`.
-/
module

public import proofs.«01_k».proof.Proof.Chunk
public import proofs.«01_k».proof.Proof.Gen.KernelIdeal.Loops
public import Idealize.ShloMosaic.Lib.Writes
public import Idealize.ShloMosaic.Lib.VecWindow
public import Idealize.ShloMosaic.Lib.Pointwise

@[expose] public section

noncomputable section

namespace Cert.KernelIdealProof

open Cert.KernelIdeal Cert.KernelIdeal.Gen
open Idealize.ShloMosaic

/-- The rectangle of a whole scale block. -/
abbrev wholeScale : LoadRect S1x8x128 :=
  (Rect.unit (s := S1x8x128) ![0, 0, 0] S1x8x128.size inb_S1x8x128_S1x8x128_0_0_0).toLoadRect

/-- Row `R`, lane `l` of a result block: the nibble of the token's delta row times the delta scale, plus the anchor code of
    the token's group of ten times the anchor scale. -/
def rowVal (A : S1x2048x128.Idx → BitVec 8) (S : S1x8x128.Idx → EReal) (D : S1x10240x128.Idx → BitVec 8)
    (T : S1x8x128.Idx → EReal) (R : Fin 20480) (l : Fin 128) : EReal :=
  (((nibWord (R.val / 8 % 2) (D (ix3 0 ⟨8 * (R.val / 16) + R.val % 8, by omega⟩ l))).toInt : ℝ) : EReal)
      * T (ix3 0 ⟨R.val % 8, by omega⟩ l)
    + (((A (ix3 0 ⟨8 * (R.val / 80) + R.val % 8, by omega⟩ l)).toInt : ℝ) : EReal)
      * S (ix3 0 ⟨R.val % 8, by omega⟩ l)

theorem trips_t1 : k0_t1_loop.trips = 64 := by decide +kernel
theorem trips_t2 : k0_t2_loop.trips = 64 := by decide +kernel

/-- A load of `n` whole rows from row `o` on reads row `o + r` at its row `r`. -/
theorem readAt_rows {N n : ℕ} {e : EltTy} {sp : Space} (v : View sig .tc sp ⟨3, ![1, N, 128]⟩ e) (f : v.ty.Contents (Elt Ideal)) {off : Fin 3 → ℕ} (o : ℕ)
    (ho : off = ![0, o, 0]) (inb : ∀ a, off a + (⟨3, ![1, n, 128]⟩ : Shape).size a ≤ (⟨3, ![1, N, 128]⟩ : Shape).size a) (r : Fin n) (l : Fin 128) (h : o + r.val < N) :
    v.readAt (Elt Ideal) (Rect.unit (s := ⟨3, ![1, N, 128]⟩) off (⟨3, ![1, n, 128]⟩ : Shape).size inb).toLoadRect f (ix3 0 r l)
      = v.read (Elt Ideal) f (ix3 0 ⟨o + r.val, h⟩ l) := by
  subst ho
  refine congrArg (v.read (Elt Ideal) f) (funext fun a => Fin.ext ?_)
  fin_cases a
  · rfl
  · show o + 1 * r.val = o + r.val; omega
  · show 0 + 1 * l.val = l.val; omega

/-- A load of a whole scale block reads the block. -/
theorem readAt_scale {sp : Space} (v : View sig .tc sp S1x8x128 .f32) (f : v.ty.Contents (Elt Ideal)) :
    v.readAt (Elt Ideal) wholeScale f = v.read (Elt Ideal) f := by
  funext y
  refine congrArg (v.read (Elt Ideal) f) (funext fun a => Fin.ext ?_)
  fin_cases a
  · show 0 + 1 * (y 0).val = (y 0).val; omega
  · show 0 + 1 * (y 1).val = (y 1).val; omega
  · show 0 + 1 * (y 2).val = (y 2).val; omega

/-- A chunk stored as 320 rows of the result narrows each of its numbers, which changes nothing at exact values. -/
theorem pay13_apply (x : FVec Ideal S320x128 .f32) (r : Fin 320) (l : Fin 128) : k0_pay13 (F := Ideal) x (ix3 0 r l) = x (ix2 r l) := by
  pointwise [k0_pay13]
theorem pay26_apply (x : FVec Ideal S320x128 .f32) (r : Fin 320) (l : Fin 128) : k0_pay26 (F := Ideal) x (ix3 0 r l) = x (ix2 r l) := by
  pointwise [k0_pay26]

/-- A chunk of rows loaded from row `32 * k` of the anchors and row `160 * k` of the deltas is rows `320 * k` on of the block. -/
theorem chunk_rows (A : S1x2048x128.Idx → BitVec 8) (S : S1x8x128.Idx → EReal) (D : S1x10240x128.Idx → BitVec 8) (T : S1x8x128.Idx → EReal)
    (k : ℕ) (hk : k < 64) (v13 : Vec Ideal S1x32x128 .i8) (v23 : Vec Ideal S1x160x128 .i8)
    (h13 : ∀ (r : Fin 32) (l : Fin 128), v13 (ix3 0 r l) = A (ix3 0 ⟨32 * k + r.val, by omega⟩ l))
    (h23 : ∀ (r : Fin 160) (l : Fin 128), v23 (ix3 0 r l) = D (ix3 0 ⟨160 * k + r.val, by omega⟩ l))
    (r : Fin 320) (l : Fin 128) :
    chunk (F := Ideal) S (shapeCast S8x128 (T : Vec Ideal S1x8x128 .f32) shapeCasts_S1x8x128_S8x128) v13 v23 (ix2 r l)
      = rowVal A S D T ⟨320 * k + r.val, by omega⟩ l := by
  rw [chunk_apply, h13, h23]
  unfold rowVal
  have e1 : (320 * k + r.val) / 8 % 2 = r.val / 8 % 2 := by omega
  have e2 : 8 * ((320 * k + r.val) / 16) + r.val % 8 = 160 * k + (8 * (r.val / 16) + r.val % 8) := by omega
  have e3 : 8 * ((320 * k + r.val) / 80) + r.val % 8 = 32 * k + (8 * (r.val / 80) + r.val % 8) := by omega
  have e4 : (320 * k + r.val) % 8 = r.val % 8 := by omega
  simp only [e1, e2, e3, e4]

/-- A result block: the closed form at each index's row and lane. -/
def blockVal (A : S1x2048x128.Idx → BitVec 8) (S : S1x8x128.Idx → EReal) (D : S1x10240x128.Idx → BitVec 8)
    (T : S1x8x128.Idx → EReal) (y : S1x20480x128.Idx) : EReal := rowVal A S D T (y 1) (y 2)

/-- A piece of 320 rows whose elements are the closed form at its rows is the block there. -/
theorem piece_val (K : ℕ) (off : Fin 3 → ℕ) (ho : off = ![0, 320 * K, 0]) (inb : ∀ a, off a + S1x320x128.size a ≤ S1x20480x128.size a)
    (w : (Rect.unit (s := S1x20480x128) off S1x320x128.size inb).shape.Idx → EReal)
    (A : S1x2048x128.Idx → BitVec 8) (S : S1x8x128.Idx → EReal) (D : S1x10240x128.Idx → BitVec 8) (T : S1x8x128.Idx → EReal) (hK : K < 64)
    (h : ∀ (r : Fin 320) (l : Fin 128), w (ix3 0 r l) = rowVal A S D T ⟨320 * K + r.val, by omega⟩ l)
    (x : (Rect.unit (s := S1x20480x128) off S1x320x128.size inb).shape.Idx) :
    w x = blockVal A S D T ((Rect.unit (s := S1x20480x128) off S1x320x128.size inb).emb x) := by
  subst ho
  have hx : x = ix3 0 (x 1 : Fin 320) (x 2 : Fin 128) := funext fun a => by
    fin_cases a
    · exact Subsingleton.elim (α := Fin 1) _ _
    · rfl
    · rfl
  refine (congrArg w hx).trans ((h _ _).trans ?_)
  unfold blockVal
  refine congrArg₂ (rowVal A S D T) (Fin.ext ?_) (Fin.ext ?_)
  · show 320 * K + (x 1).val = 320 * K + 1 * (x 1).val; omega
  · show (x 2).val = 0 + 1 * (x 2).val; omega

/-- The rows such a piece covers. -/
theorem piece_mem (K : ℕ) (off : Fin 3 → ℕ) (ho : off = ![0, 320 * K, 0]) (inb : ∀ a, off a + S1x320x128.size a ≤ S1x20480x128.size a)
    (y : S1x20480x128.Idx) (h1 : 320 * K ≤ (y 1).val) (h2 : (y 1).val < 320 * K + 320) :
    y ∈ (Rect.unit (s := S1x20480x128) off S1x320x128.size inb).set := by
  subst ho
  rw [Rect.mem_set_unit]
  have h0 : (y 0).val < 1 := (y 0).isLt
  have h3 : (y 2).val < 128 := (y 2).isLt
  intro a
  fin_cases a
  · exact ⟨Nat.zero_le _, by show (y 0).val < 0 + 1; omega⟩
  · exact ⟨h1, h2⟩
  · exact ⟨Nat.zero_le _, by show (y 2).val < 0 + 128; omega⟩

/-- Loop 1's pieces after the first `K` trips, at exact values. -/
abbrev pieces_t1 (c : Dev nD) (i : grid0.Coords) (arg2 : Memref sig .tc .vmem S1x2048x128 .i8) (harg2 : arg2.IsWhole) (arg3 : Memref sig .tc .vmem S1x8x128 .f32) (harg3 : arg3.IsWhole) (arg4 : Memref sig .tc .vmem S1x10240x128 .i8) (harg4 : arg4.IsWhole) (arg5 : Memref sig .tc .vmem S1x8x128 .f32) (harg5 : arg5.IsWhole) (arg6 : Memref sig .tc .vmem S1x2048x128 .i8) (harg6 : arg6.IsWhole) (arg7 : Memref sig .tc .vmem S1x8x128 .f32) (harg7 : arg7.IsWhole) (arg8 : Memref sig .tc .vmem S1x10240x128 .i8) (harg8 : arg8.IsWhole) (arg9 : Memref sig .tc .vmem S1x8x128 .f32) (harg9 : arg9.IsWhole) (arg10 : Memref sig .tc .vmem S1x20480x128 .bf16) (harg10 : arg10.IsWhole) (arg11 : Memref sig .tc .vmem S1x20480x128 .bf16) (harg11 : arg11.IsWhole)
    (f2 : BufTy.Contents (Elt Ideal) arg2.view.ty) (f3 : BufTy.Contents (Elt Ideal) arg3.view.ty)
    (f4 : BufTy.Contents (Elt Ideal) arg4.view.ty) (f5 : BufTy.Contents (Elt Ideal) arg5.view.ty) (K : ℕ) :
    List (View.Piece (Elt Ideal) S1x20480x128 .bf16) :=
  pb_k0_t1 (F := Ideal) Variants.none c none i arg2 harg2 arg3 harg3 arg4 harg4 arg5 harg5 arg6 harg6 arg7 harg7 arg8 harg8 arg9 harg9 arg10 harg10 arg11 harg11 (arg3.view.readAt (Elt Ideal) wholeScale f3)
    (shapeCast S8x128 (arg5.view.readAt (Elt Ideal) wholeScale f5) shapeCasts_S1x8x128_S8x128) f2 f4 K

/-- Trip `k` of loop 1 stores one piece, rows `320 * k` on, and every element of it is the block's closed form there. -/
theorem trip_t1 (c : Dev nD) (i : grid0.Coords) (arg2 : Memref sig .tc .vmem S1x2048x128 .i8) (harg2 : arg2.IsWhole) (arg3 : Memref sig .tc .vmem S1x8x128 .f32) (harg3 : arg3.IsWhole) (arg4 : Memref sig .tc .vmem S1x10240x128 .i8) (harg4 : arg4.IsWhole) (arg5 : Memref sig .tc .vmem S1x8x128 .f32) (harg5 : arg5.IsWhole) (arg6 : Memref sig .tc .vmem S1x2048x128 .i8) (harg6 : arg6.IsWhole) (arg7 : Memref sig .tc .vmem S1x8x128 .f32) (harg7 : arg7.IsWhole) (arg8 : Memref sig .tc .vmem S1x10240x128 .i8) (harg8 : arg8.IsWhole) (arg9 : Memref sig .tc .vmem S1x8x128 .f32) (harg9 : arg9.IsWhole) (arg10 : Memref sig .tc .vmem S1x20480x128 .bf16) (harg10 : arg10.IsWhole) (arg11 : Memref sig .tc .vmem S1x20480x128 .bf16) (harg11 : arg11.IsWhole)
    (f2 : BufTy.Contents (Elt Ideal) arg2.view.ty) (f3 : BufTy.Contents (Elt Ideal) arg3.view.ty)
    (f4 : BufTy.Contents (Elt Ideal) arg4.view.ty) (f5 : BufTy.Contents (Elt Ideal) arg5.view.ty) (k : Fin k0_t1_loop.trips) :
    ∃ w, pieces_t1 c i arg2 harg2 arg3 harg3 arg4 harg4 arg5 harg5 arg6 harg6 arg7 harg7 arg8 harg8 arg9 harg9 arg10 harg10 arg11 harg11 f2 f3 f4 f5 (k.val + 1)
        = (⟨Rect.unit (s := S1x20480x128) (k0_off3 k) S1x320x128.size (k0_off3_inb k), w⟩ : View.Piece (Elt Ideal) S1x20480x128 .bf16)
          :: pieces_t1 c i arg2 harg2 arg3 harg3 arg4 harg4 arg5 harg5 arg6 harg6 arg7 harg7 arg8 harg8 arg9 harg9 arg10 harg10 arg11 harg11 f2 f3 f4 f5 k.val
      ∧ ∀ (r : Fin 320) (l : Fin 128), w (ix3 0 r l)
          = rowVal (arg2.view.read (Elt Ideal) f2) (arg3.view.read (Elt Ideal) f3) (arg4.view.read (Elt Ideal) f4) (arg5.view.read (Elt Ideal) f5)
              ⟨320 * k.val + r.val, by have := k.isLt; have := trips_t1; omega⟩ l := by
  have hk : k.val < 64 := trips_t1 ▸ k.isLt
  refine ⟨k0_pay13 (trip_k0_t1.sl.v207 arg2 arg4 (arg3.view.readAt (Elt Ideal) wholeScale f3)
    (shapeCast S8x128 (arg5.view.readAt (Elt Ideal) wholeScale f5) shapeCasts_S1x8x128_S8x128) f2 f4 k), ?_, fun r l => ?_⟩
  · unfold pieces_t1
    rw [pb_k0_t1_succ]
    unfold tripL_k0_t1 trip_k0_t1
    rfl
  · rw [pay13_apply, v207_t1, readAt_scale, readAt_scale]
    exact chunk_rows _ _ _ _ k.val hk _ _ (fun r l => readAt_rows _ _ _ (k0_off1_eq k) _ r l _)
      (fun r l => readAt_rows _ _ _ (k0_off2_eq k) _ r l _) r l

/-- Loop 1's pieces after `K` trips: each element is the block's closed form, and together they cover the first `320 * K` rows. -/
theorem pieces_val_t1 (c : Dev nD) (i : grid0.Coords) (arg2 : Memref sig .tc .vmem S1x2048x128 .i8) (harg2 : arg2.IsWhole) (arg3 : Memref sig .tc .vmem S1x8x128 .f32) (harg3 : arg3.IsWhole) (arg4 : Memref sig .tc .vmem S1x10240x128 .i8) (harg4 : arg4.IsWhole) (arg5 : Memref sig .tc .vmem S1x8x128 .f32) (harg5 : arg5.IsWhole) (arg6 : Memref sig .tc .vmem S1x2048x128 .i8) (harg6 : arg6.IsWhole) (arg7 : Memref sig .tc .vmem S1x8x128 .f32) (harg7 : arg7.IsWhole) (arg8 : Memref sig .tc .vmem S1x10240x128 .i8) (harg8 : arg8.IsWhole) (arg9 : Memref sig .tc .vmem S1x8x128 .f32) (harg9 : arg9.IsWhole) (arg10 : Memref sig .tc .vmem S1x20480x128 .bf16) (harg10 : arg10.IsWhole) (arg11 : Memref sig .tc .vmem S1x20480x128 .bf16) (harg11 : arg11.IsWhole)
    (f2 : BufTy.Contents (Elt Ideal) arg2.view.ty) (f3 : BufTy.Contents (Elt Ideal) arg3.view.ty)
    (f4 : BufTy.Contents (Elt Ideal) arg4.view.ty) (f5 : BufTy.Contents (Elt Ideal) arg5.view.ty) :
    ∀ K, K ≤ k0_t1_loop.trips →
      (∀ p ∈ pieces_t1 c i arg2 harg2 arg3 harg3 arg4 harg4 arg5 harg5 arg6 harg6 arg7 harg7 arg8 harg8 arg9 harg9 arg10 harg10 arg11 harg11 f2 f3 f4 f5 K, ∀ x,
        p.2 x = blockVal (arg2.view.read (Elt Ideal) f2) (arg3.view.read (Elt Ideal) f3) (arg4.view.read (Elt Ideal) f4) (arg5.view.read (Elt Ideal) f5) (p.1.emb x))
      ∧ ∀ y : S1x20480x128.Idx, (y 1).val < 320 * K → ∃ p ∈ pieces_t1 c i arg2 harg2 arg3 harg3 arg4 harg4 arg5 harg5 arg6 harg6 arg7 harg7 arg8 harg8 arg9 harg9 arg10 harg10 arg11 harg11 f2 f3 f4 f5 K, y ∈ p.1.set
  | 0, _ => ⟨fun p hp => absurd hp List.not_mem_nil, fun y hy => absurd hy (by omega)⟩
  | K + 1, hK => by
    obtain ⟨ihv, ihc⟩ := pieces_val_t1 c i arg2 harg2 arg3 harg3 arg4 harg4 arg5 harg5 arg6 harg6 arg7 harg7 arg8 harg8 arg9 harg9 arg10 harg10 arg11 harg11 f2 f3 f4 f5 K (by omega)
    obtain ⟨w, hw, hval⟩ := trip_t1 c i arg2 harg2 arg3 harg3 arg4 harg4 arg5 harg5 arg6 harg6 arg7 harg7 arg8 harg8 arg9 harg9 arg10 harg10 arg11 harg11 f2 f3 f4 f5 ⟨K, hK⟩
    rw [show K + 1 = (⟨K, hK⟩ : Fin k0_t1_loop.trips).val + 1 from rfl, hw]
    refine ⟨fun p hp x => ?_, fun y hy => ?_⟩
    · rcases List.mem_cons.mp hp with rfl | hp
      · exact piece_val _ _ (k0_off3_eq ⟨K, hK⟩) _ w _ _ _ _ (by have := trips_t1; omega) hval x
      · exact ihv p hp x
    · by_cases h : (y 1).val < 320 * K
      · obtain ⟨p, hp, hy⟩ := ihc y h
        exact ⟨p, List.mem_cons_of_mem _ hp, hy⟩
      · exact ⟨_, List.mem_cons_self, piece_mem _ _ (k0_off3_eq ⟨K, hK⟩) (k0_off3_inb ⟨K, hK⟩) y (by show 320 * K ≤ (y 1).val; omega) (by show (y 1).val < 320 * K + 320; have : (y 1).val < 320 * (K + 1) := hy; omega)⟩

/-- WHAT LOOP 1 LEAVES in its result's staging buffer, over any prior contents: the block's closed form. -/
theorem read_t1 (c : Dev nD) (i : grid0.Coords) (arg2 : Memref sig .tc .vmem S1x2048x128 .i8) (harg2 : arg2.IsWhole) (arg3 : Memref sig .tc .vmem S1x8x128 .f32) (harg3 : arg3.IsWhole) (arg4 : Memref sig .tc .vmem S1x10240x128 .i8) (harg4 : arg4.IsWhole) (arg5 : Memref sig .tc .vmem S1x8x128 .f32) (harg5 : arg5.IsWhole) (arg6 : Memref sig .tc .vmem S1x2048x128 .i8) (harg6 : arg6.IsWhole) (arg7 : Memref sig .tc .vmem S1x8x128 .f32) (harg7 : arg7.IsWhole) (arg8 : Memref sig .tc .vmem S1x10240x128 .i8) (harg8 : arg8.IsWhole) (arg9 : Memref sig .tc .vmem S1x8x128 .f32) (harg9 : arg9.IsWhole) (arg10 : Memref sig .tc .vmem S1x20480x128 .bf16) (harg10 : arg10.IsWhole) (arg11 : Memref sig .tc .vmem S1x20480x128 .bf16) (harg11 : arg11.IsWhole)
    (f2 : BufTy.Contents (Elt Ideal) arg2.view.ty) (f3 : BufTy.Contents (Elt Ideal) arg3.view.ty)
    (f4 : BufTy.Contents (Elt Ideal) arg4.view.ty) (f5 : BufTy.Contents (Elt Ideal) arg5.view.ty) (f10 : BufTy.Contents (Elt Ideal) arg10.view.ty) :
    arg10.view.read (Elt Ideal) (arg10.view.writes (Elt Ideal) f10 (pieces_t1 c i arg2 harg2 arg3 harg3 arg4 harg4 arg5 harg5 arg6 harg6 arg7 harg7 arg8 harg8 arg9 harg9 arg10 harg10 arg11 harg11 f2 f3 f4 f5 k0_t1_loop.trips))
      = blockVal (arg2.view.read (Elt Ideal) f2) (arg3.view.read (Elt Ideal) f3) (arg4.view.read (Elt Ideal) f4) (arg5.view.read (Elt Ideal) f5) := by
  obtain ⟨hv, hc⟩ := pieces_val_t1 c i arg2 harg2 arg3 harg3 arg4 harg4 arg5 harg5 arg6 harg6 arg7 harg7 arg8 harg8 arg9 harg9 arg10 harg10 arg11 harg11 f2 f3 f4 f5 _ le_rfl
  funext y
  refine View.read_writes_apply_of_pieces _ _ _ _ hv y (hc y ?_)
  have : (y 1).val < 20480 := (y 1).isLt
  rw [trips_t1]; omega

/-- Loop 2's pieces after the first `K` trips, at exact values. -/
abbrev pieces_t2 (c : Dev nD) (i : grid0.Coords) (arg2 : Memref sig .tc .vmem S1x2048x128 .i8) (harg2 : arg2.IsWhole) (arg3 : Memref sig .tc .vmem S1x8x128 .f32) (harg3 : arg3.IsWhole) (arg4 : Memref sig .tc .vmem S1x10240x128 .i8) (harg4 : arg4.IsWhole) (arg5 : Memref sig .tc .vmem S1x8x128 .f32) (harg5 : arg5.IsWhole) (arg6 : Memref sig .tc .vmem S1x2048x128 .i8) (harg6 : arg6.IsWhole) (arg7 : Memref sig .tc .vmem S1x8x128 .f32) (harg7 : arg7.IsWhole) (arg8 : Memref sig .tc .vmem S1x10240x128 .i8) (harg8 : arg8.IsWhole) (arg9 : Memref sig .tc .vmem S1x8x128 .f32) (harg9 : arg9.IsWhole) (arg10 : Memref sig .tc .vmem S1x20480x128 .bf16) (harg10 : arg10.IsWhole) (arg11 : Memref sig .tc .vmem S1x20480x128 .bf16) (harg11 : arg11.IsWhole)
    (f6 : BufTy.Contents (Elt Ideal) arg6.view.ty) (f7 : BufTy.Contents (Elt Ideal) arg7.view.ty)
    (f8 : BufTy.Contents (Elt Ideal) arg8.view.ty) (f9 : BufTy.Contents (Elt Ideal) arg9.view.ty) (K : ℕ) :
    List (View.Piece (Elt Ideal) S1x20480x128 .bf16) :=
  pb_k0_t2 (F := Ideal) Variants.none c none i arg2 harg2 arg3 harg3 arg4 harg4 arg5 harg5 arg6 harg6 arg7 harg7 arg8 harg8 arg9 harg9 arg10 harg10 arg11 harg11 (arg7.view.readAt (Elt Ideal) wholeScale f7)
    (shapeCast S8x128 (arg9.view.readAt (Elt Ideal) wholeScale f9) shapeCasts_S1x8x128_S8x128) f6 f8 K

/-- Trip `k` of loop 2 stores one piece, rows `320 * k` on, and every element of it is the block's closed form there. -/
theorem trip_t2 (c : Dev nD) (i : grid0.Coords) (arg2 : Memref sig .tc .vmem S1x2048x128 .i8) (harg2 : arg2.IsWhole) (arg3 : Memref sig .tc .vmem S1x8x128 .f32) (harg3 : arg3.IsWhole) (arg4 : Memref sig .tc .vmem S1x10240x128 .i8) (harg4 : arg4.IsWhole) (arg5 : Memref sig .tc .vmem S1x8x128 .f32) (harg5 : arg5.IsWhole) (arg6 : Memref sig .tc .vmem S1x2048x128 .i8) (harg6 : arg6.IsWhole) (arg7 : Memref sig .tc .vmem S1x8x128 .f32) (harg7 : arg7.IsWhole) (arg8 : Memref sig .tc .vmem S1x10240x128 .i8) (harg8 : arg8.IsWhole) (arg9 : Memref sig .tc .vmem S1x8x128 .f32) (harg9 : arg9.IsWhole) (arg10 : Memref sig .tc .vmem S1x20480x128 .bf16) (harg10 : arg10.IsWhole) (arg11 : Memref sig .tc .vmem S1x20480x128 .bf16) (harg11 : arg11.IsWhole)
    (f6 : BufTy.Contents (Elt Ideal) arg6.view.ty) (f7 : BufTy.Contents (Elt Ideal) arg7.view.ty)
    (f8 : BufTy.Contents (Elt Ideal) arg8.view.ty) (f9 : BufTy.Contents (Elt Ideal) arg9.view.ty) (k : Fin k0_t2_loop.trips) :
    ∃ w, pieces_t2 c i arg2 harg2 arg3 harg3 arg4 harg4 arg5 harg5 arg6 harg6 arg7 harg7 arg8 harg8 arg9 harg9 arg10 harg10 arg11 harg11 f6 f7 f8 f9 (k.val + 1)
        = (⟨Rect.unit (s := S1x20480x128) (k0_off6 k) S1x320x128.size (k0_off6_inb k), w⟩ : View.Piece (Elt Ideal) S1x20480x128 .bf16)
          :: pieces_t2 c i arg2 harg2 arg3 harg3 arg4 harg4 arg5 harg5 arg6 harg6 arg7 harg7 arg8 harg8 arg9 harg9 arg10 harg10 arg11 harg11 f6 f7 f8 f9 k.val
      ∧ ∀ (r : Fin 320) (l : Fin 128), w (ix3 0 r l)
          = rowVal (arg6.view.read (Elt Ideal) f6) (arg7.view.read (Elt Ideal) f7) (arg8.view.read (Elt Ideal) f8) (arg9.view.read (Elt Ideal) f9)
              ⟨320 * k.val + r.val, by have := k.isLt; have := trips_t2; omega⟩ l := by
  have hk : k.val < 64 := trips_t2 ▸ k.isLt
  refine ⟨k0_pay26 (trip_k0_t2.sl.v207 arg6 arg8 (arg7.view.readAt (Elt Ideal) wholeScale f7)
    (shapeCast S8x128 (arg9.view.readAt (Elt Ideal) wholeScale f9) shapeCasts_S1x8x128_S8x128) f6 f8 k), ?_, fun r l => ?_⟩
  · unfold pieces_t2
    rw [pb_k0_t2_succ]
    unfold tripL_k0_t2 trip_k0_t2
    rfl
  · rw [pay26_apply, v207_t2, readAt_scale, readAt_scale]
    exact chunk_rows _ _ _ _ k.val hk _ _ (fun r l => readAt_rows _ _ _ (k0_off4_eq k) _ r l _)
      (fun r l => readAt_rows _ _ _ (k0_off5_eq k) _ r l _) r l

/-- Loop 2's pieces after `K` trips: each element is the block's closed form, and together they cover the first `320 * K` rows. -/
theorem pieces_val_t2 (c : Dev nD) (i : grid0.Coords) (arg2 : Memref sig .tc .vmem S1x2048x128 .i8) (harg2 : arg2.IsWhole) (arg3 : Memref sig .tc .vmem S1x8x128 .f32) (harg3 : arg3.IsWhole) (arg4 : Memref sig .tc .vmem S1x10240x128 .i8) (harg4 : arg4.IsWhole) (arg5 : Memref sig .tc .vmem S1x8x128 .f32) (harg5 : arg5.IsWhole) (arg6 : Memref sig .tc .vmem S1x2048x128 .i8) (harg6 : arg6.IsWhole) (arg7 : Memref sig .tc .vmem S1x8x128 .f32) (harg7 : arg7.IsWhole) (arg8 : Memref sig .tc .vmem S1x10240x128 .i8) (harg8 : arg8.IsWhole) (arg9 : Memref sig .tc .vmem S1x8x128 .f32) (harg9 : arg9.IsWhole) (arg10 : Memref sig .tc .vmem S1x20480x128 .bf16) (harg10 : arg10.IsWhole) (arg11 : Memref sig .tc .vmem S1x20480x128 .bf16) (harg11 : arg11.IsWhole)
    (f6 : BufTy.Contents (Elt Ideal) arg6.view.ty) (f7 : BufTy.Contents (Elt Ideal) arg7.view.ty)
    (f8 : BufTy.Contents (Elt Ideal) arg8.view.ty) (f9 : BufTy.Contents (Elt Ideal) arg9.view.ty) :
    ∀ K, K ≤ k0_t2_loop.trips →
      (∀ p ∈ pieces_t2 c i arg2 harg2 arg3 harg3 arg4 harg4 arg5 harg5 arg6 harg6 arg7 harg7 arg8 harg8 arg9 harg9 arg10 harg10 arg11 harg11 f6 f7 f8 f9 K, ∀ x,
        p.2 x = blockVal (arg6.view.read (Elt Ideal) f6) (arg7.view.read (Elt Ideal) f7) (arg8.view.read (Elt Ideal) f8) (arg9.view.read (Elt Ideal) f9) (p.1.emb x))
      ∧ ∀ y : S1x20480x128.Idx, (y 1).val < 320 * K → ∃ p ∈ pieces_t2 c i arg2 harg2 arg3 harg3 arg4 harg4 arg5 harg5 arg6 harg6 arg7 harg7 arg8 harg8 arg9 harg9 arg10 harg10 arg11 harg11 f6 f7 f8 f9 K, y ∈ p.1.set
  | 0, _ => ⟨fun p hp => absurd hp List.not_mem_nil, fun y hy => absurd hy (by omega)⟩
  | K + 1, hK => by
    obtain ⟨ihv, ihc⟩ := pieces_val_t2 c i arg2 harg2 arg3 harg3 arg4 harg4 arg5 harg5 arg6 harg6 arg7 harg7 arg8 harg8 arg9 harg9 arg10 harg10 arg11 harg11 f6 f7 f8 f9 K (by omega)
    obtain ⟨w, hw, hval⟩ := trip_t2 c i arg2 harg2 arg3 harg3 arg4 harg4 arg5 harg5 arg6 harg6 arg7 harg7 arg8 harg8 arg9 harg9 arg10 harg10 arg11 harg11 f6 f7 f8 f9 ⟨K, hK⟩
    rw [show K + 1 = (⟨K, hK⟩ : Fin k0_t2_loop.trips).val + 1 from rfl, hw]
    refine ⟨fun p hp x => ?_, fun y hy => ?_⟩
    · rcases List.mem_cons.mp hp with rfl | hp
      · exact piece_val _ _ (k0_off6_eq ⟨K, hK⟩) _ w _ _ _ _ (by have := trips_t2; omega) hval x
      · exact ihv p hp x
    · by_cases h : (y 1).val < 320 * K
      · obtain ⟨p, hp, hy⟩ := ihc y h
        exact ⟨p, List.mem_cons_of_mem _ hp, hy⟩
      · exact ⟨_, List.mem_cons_self, piece_mem _ _ (k0_off6_eq ⟨K, hK⟩) (k0_off6_inb ⟨K, hK⟩) y (by show 320 * K ≤ (y 1).val; omega) (by show (y 1).val < 320 * K + 320; have : (y 1).val < 320 * (K + 1) := hy; omega)⟩

/-- WHAT LOOP 2 LEAVES in its result's staging buffer, over any prior contents: the block's closed form. -/
theorem read_t2 (c : Dev nD) (i : grid0.Coords) (arg2 : Memref sig .tc .vmem S1x2048x128 .i8) (harg2 : arg2.IsWhole) (arg3 : Memref sig .tc .vmem S1x8x128 .f32) (harg3 : arg3.IsWhole) (arg4 : Memref sig .tc .vmem S1x10240x128 .i8) (harg4 : arg4.IsWhole) (arg5 : Memref sig .tc .vmem S1x8x128 .f32) (harg5 : arg5.IsWhole) (arg6 : Memref sig .tc .vmem S1x2048x128 .i8) (harg6 : arg6.IsWhole) (arg7 : Memref sig .tc .vmem S1x8x128 .f32) (harg7 : arg7.IsWhole) (arg8 : Memref sig .tc .vmem S1x10240x128 .i8) (harg8 : arg8.IsWhole) (arg9 : Memref sig .tc .vmem S1x8x128 .f32) (harg9 : arg9.IsWhole) (arg10 : Memref sig .tc .vmem S1x20480x128 .bf16) (harg10 : arg10.IsWhole) (arg11 : Memref sig .tc .vmem S1x20480x128 .bf16) (harg11 : arg11.IsWhole)
    (f6 : BufTy.Contents (Elt Ideal) arg6.view.ty) (f7 : BufTy.Contents (Elt Ideal) arg7.view.ty)
    (f8 : BufTy.Contents (Elt Ideal) arg8.view.ty) (f9 : BufTy.Contents (Elt Ideal) arg9.view.ty) (f11 : BufTy.Contents (Elt Ideal) arg11.view.ty) :
    arg11.view.read (Elt Ideal) (arg11.view.writes (Elt Ideal) f11 (pieces_t2 c i arg2 harg2 arg3 harg3 arg4 harg4 arg5 harg5 arg6 harg6 arg7 harg7 arg8 harg8 arg9 harg9 arg10 harg10 arg11 harg11 f6 f7 f8 f9 k0_t2_loop.trips))
      = blockVal (arg6.view.read (Elt Ideal) f6) (arg7.view.read (Elt Ideal) f7) (arg8.view.read (Elt Ideal) f8) (arg9.view.read (Elt Ideal) f9) := by
  obtain ⟨hv, hc⟩ := pieces_val_t2 c i arg2 harg2 arg3 harg3 arg4 harg4 arg5 harg5 arg6 harg6 arg7 harg7 arg8 harg8 arg9 harg9 arg10 harg10 arg11 harg11 f6 f7 f8 f9 _ le_rfl
  funext y
  refine View.read_writes_apply_of_pieces _ _ _ _ hv y (hc y ?_)
  have : (y 1).val < 20480 := (y 1).isLt
  rw [trips_t2]; omega

end Cert.KernelIdealProof

end
-- ==== Proof.IdealBody.lean ====
/-
  One run of the exact kernel's body on any ten staging buffers: what each buffer holds after it.
-/
module

public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Loops
public import Idealize.ShloMosaic.Lib.Pipeline.FrameSuffix
public import Idealize.ShloMosaic.Lib.Tactic
public import proofs.«01_k».proof.Proof.Block

@[expose] public section

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR sig nD τ) ℕ

set_option maxHeartbeats 4000000 in
/-- THE KERNEL BODY on any ten staging buffers: the two loops run through, the eight inputs keep their contents, and each
    result ends at its 64 chunks written over whatever it held. -/
theorem body_run (c : Dev nD) (i : grid0.Coords)
    (arg2 : Memref sig .tc .vmem S1x2048x128 .i8) (harg2 : arg2.IsWhole)
    (arg3 : Memref sig .tc .vmem S1x8x128 .f32) (harg3 : arg3.IsWhole)
    (arg4 : Memref sig .tc .vmem S1x10240x128 .i8) (harg4 : arg4.IsWhole)
    (arg5 : Memref sig .tc .vmem S1x8x128 .f32) (harg5 : arg5.IsWhole)
    (arg6 : Memref sig .tc .vmem S1x2048x128 .i8) (harg6 : arg6.IsWhole)
    (arg7 : Memref sig .tc .vmem S1x8x128 .f32) (harg7 : arg7.IsWhole)
    (arg8 : Memref sig .tc .vmem S1x10240x128 .i8) (harg8 : arg8.IsWhole)
    (arg9 : Memref sig .tc .vmem S1x8x128 .f32) (harg9 : arg9.IsWhole)
    (arg10 : Memref sig .tc .vmem S1x20480x128 .bf16) (harg10 : arg10.IsWhole)
    (arg11 : Memref sig .tc .vmem S1x20480x128 .bf16) (harg11 : arg11.IsWhole)
    (f2 : BufTy.Contents (Elt F) arg2.view.ty)
    (f3 : BufTy.Contents (Elt F) arg3.view.ty)
    (f4 : BufTy.Contents (Elt F) arg4.view.ty)
    (f5 : BufTy.Contents (Elt F) arg5.view.ty)
    (f6 : BufTy.Contents (Elt F) arg6.view.ty)
    (f7 : BufTy.Contents (Elt F) arg7.view.ty)
    (f8 : BufTy.Contents (Elt F) arg8.view.ty)
    (f9 : BufTy.Contents (Elt F) arg9.view.ty)
    (f10 : BufTy.Contents (Elt F) arg10.view.ty)
    (f11 : BufTy.Contents (Elt F) arg11.view.ty) (K : PUnit → sProp 𝕄) :
    iprop(((arg2.view.loc (c : Thread nD τ) ↦[arg2.view.set]{fullShare} f2)
      ∗ (arg3.view.loc (c : Thread nD τ) ↦[arg3.view.set]{fullShare} f3)
      ∗ (arg4.view.loc (c : Thread nD τ) ↦[arg4.view.set]{fullShare} f4)
      ∗ (arg5.view.loc (c : Thread nD τ) ↦[arg5.view.set]{fullShare} f5)
      ∗ (arg6.view.loc (c : Thread nD τ) ↦[arg6.view.set]{fullShare} f6)
      ∗ (arg7.view.loc (c : Thread nD τ) ↦[arg7.view.set]{fullShare} f7)
      ∗ (arg8.view.loc (c : Thread nD τ) ↦[arg8.view.set]{fullShare} f8)
      ∗ (arg9.view.loc (c : Thread nD τ) ↦[arg9.view.set]{fullShare} f9)
      ∗ (arg10.view.loc (c : Thread nD τ) ↦[arg10.view.set]{fullShare} f10)
      ∗ (arg11.view.loc (c : Thread nD τ) ↦[arg11.view.set]{fullShare} f11))
      ∗ (iprop((arg2.view.loc (c : Thread nD τ) ↦[arg2.view.set]{fullShare} f2)
      ∗ (arg3.view.loc (c : Thread nD τ) ↦[arg3.view.set]{fullShare} f3)
      ∗ (arg4.view.loc (c : Thread nD τ) ↦[arg4.view.set]{fullShare} f4)
      ∗ (arg5.view.loc (c : Thread nD τ) ↦[arg5.view.set]{fullShare} f5)
      ∗ (arg6.view.loc (c : Thread nD τ) ↦[arg6.view.set]{fullShare} f6)
      ∗ (arg7.view.loc (c : Thread nD τ) ↦[arg7.view.set]{fullShare} f7)
      ∗ (arg8.view.loc (c : Thread nD τ) ↦[arg8.view.set]{fullShare} f8)
      ∗ (arg9.view.loc (c : Thread nD τ) ↦[arg9.view.set]{fullShare} f9)
      ∗ (arg10.view.loc (c : Thread nD τ) ↦[arg10.view.set]{fullShare} (arg10.view.writes (Elt F) f10 (pb_k0_t1 (F := F) Variants.none c none i arg2 harg2 arg3 harg3 arg4 harg4 arg5 harg5 arg6 harg6 arg7 harg7 arg8 harg8 arg9 harg9 arg10 harg10 arg11 harg11 (arg3.view.readAt (Elt F) wholeScale f3) (shapeCast S8x128 (arg5.view.readAt (Elt F) wholeScale f5) shapeCasts_S1x8x128_S8x128) f2 f4 k0_t1_loop.trips)))
      ∗ (arg11.view.loc (c : Thread nD τ) ↦[arg11.view.set]{fullShare} (arg11.view.writes (Elt F) f11 (pb_k0_t2 (F := F) Variants.none c none i arg2 harg2 arg3 harg3 arg4 harg4 arg5 harg5 arg6 harg6 arg7 harg7 arg8 harg8 arg9 harg9 arg10 harg10 arg11 harg11 (arg7.view.readAt (Elt F) wholeScale f7) (shapeCast S8x128 (arg9.view.readAt (Elt F) wholeScale f9) shapeCasts_S1x8x128_S8x128) f6 f8 k0_t2_loop.trips)))) -∗ K ⟨⟩))
      ⊢ wp frame (wpE (defs₀ (F := F)) Variants.none (c : Thread nD τ) none) Set.univ
          (cc0_anchor_delta_decode (F := F) i arg2 harg2 arg3 harg3 arg4 harg4 arg5 harg5 arg6 harg6 arg7 harg7 arg8 harg8 arg9 harg9 arg10 harg10 arg11 harg11) K := by
  simp only [cc0_anchor_delta_decode_eq_skeleton]; unfold cc0_anchor_delta_decode_skel
  iintro ⟨⟨H2, H3, H4, H5, H6, H7, H8, H9, H10, H11⟩, Hk⟩
  sl_exec
  sl_step
  iapply Hk
  sl_close

end Cert.KernelIdealProof

end
-- ==== Proof.Windows.lean ====
/-
  The exact kernel's windows at coordinates: which rows of its array each block covers, and the result blocks as blocks of
  ONE array, the closed form `outVal` of the whole anchors, deltas and scales. The last block along the rows overhangs its
  array; only its rows inside the array are described.
-/
module

public import proofs.«01_k».proof.Proof.Block
public import proofs.«01_k».proof.Proof.Gen.KernelIdeal.Frame
public import Idealize.ShloMosaic.Lib.Pipeline.ValueKit.Geometry

@[expose] public section

noncomputable section

namespace Cert.KernelIdealProof

open Cert.KernelIdeal Cert.KernelIdeal.Gen
open Idealize.ShloMosaic Idealize.ShloMosaic.TcCoe
open Idealize.ShloMosaic.Pipeline (Dat Cfg Window)

/-- Row `R` (token `R / 8`, head `R % 8`), lane `l` of batch `b`'s result rows: the nibble of the token's delta row times the
    delta scale, plus the anchor code of the token's group of ten times the anchor scale. -/
def outVal (A : S2x52432x128.Idx → BitVec 8) (S : S2x8x128.Idx → EReal) (D : S2x262144x128.Idx → BitVec 8)
    (T : S2x8x128.Idx → EReal) (b : Fin 2) (R : Fin 524288) (l : Fin 128) : EReal :=
  (((nibWord (R.val / 8 % 2) (D (ix3 b ⟨8 * (R.val / 16) + R.val % 8, by omega⟩ l))).toInt : ℝ) : EReal)
      * T (ix3 b ⟨R.val % 8, by omega⟩ l)
    + (((A (ix3 b ⟨8 * (R.val / 80) + R.val % 8, by omega⟩ l)).toInt : ℝ) : EReal)
      * S (ix3 b ⟨R.val % 8, by omega⟩ l)

/-- The whole result array. -/
def outArr (A : S2x52432x128.Idx → BitVec 8) (S : S2x8x128.Idx → EReal) (D : S2x262144x128.Idx → BitVec 8)
    (T : S2x8x128.Idx → EReal) (y : S2x524288x128.Idx) : EReal := outVal A S D T (y 0) (y 1) (y 2)

/-- Row `R` of block `i` is row `20480 * i + R` of the array, whatever the input blocks hold past the arrays' ends. -/
theorem rowVal_eq_outVal (A : S2x52432x128.Idx → BitVec 8) (S : S2x8x128.Idx → EReal) (D : S2x262144x128.Idx → BitVec 8)
    (T : S2x8x128.Idx → EReal) (b : Fin 2) (i : ℕ)
    (A' : S1x2048x128.Idx → BitVec 8) (S' : S1x8x128.Idx → EReal) (D' : S1x10240x128.Idx → BitVec 8) (T' : S1x8x128.Idx → EReal)
    (hA : ∀ (r : Fin 2048) (l : Fin 128) (h : 2048 * i + r.val < 52432), A' (ix3 0 r l) = A (ix3 b ⟨2048 * i + r.val, h⟩ l))
    (hS : ∀ (r : Fin 8) (l : Fin 128), S' (ix3 0 r l) = S (ix3 b r l))
    (hD : ∀ (r : Fin 10240) (l : Fin 128) (h : 10240 * i + r.val < 262144), D' (ix3 0 r l) = D (ix3 b ⟨10240 * i + r.val, h⟩ l))
    (hT : ∀ (r : Fin 8) (l : Fin 128), T' (ix3 0 r l) = T (ix3 b r l))
    (R : Fin 20480) (l : Fin 128) (h : 20480 * i + R.val < 524288) :
    rowVal A' S' D' T' R l = outVal A S D T b ⟨20480 * i + R.val, h⟩ l := by
  unfold rowVal outVal
  rw [hS, hT, hA _ _ (by simp only; omega), hD _ _ (by simp only; omega)]
  have e1 : (20480 * i + R.val) / 8 % 2 = R.val / 8 % 2 := by omega
  have e2 : 8 * ((20480 * i + R.val) / 16) + R.val % 8 = 10240 * i + (8 * (R.val / 16) + R.val % 8) := by omega
  have e3 : 8 * ((20480 * i + R.val) / 80) + R.val % 8 = 2048 * i + (8 * (R.val / 80) + R.val % 8) := by omega
  have e4 : (20480 * i + R.val) % 8 = R.val % 8 := by omega
  simp only [e1, e2, e3, e4]

variable (m : (ℓ : Loc nD τ sig) → Buf (Elt Ideal) ℓ)

/-- The batch and the block along the rows of a point. -/
abbrev batch (t : Fin cfg0.N) : Fin 2 := grid0.coords t 0
abbrev rowBlock (t : Fin cfg0.N) : Fin 26 := grid0.coords t 1

theorem geom_0 : ∀ t : Fin cfg0.N, win0_0.index t = ![(grid0.coords t 0).val, (grid0.coords t 1).val, 0]
    ∧ win0_0.xsize (grid0.coords t) 0 = 1 ∧ win0_0.xsize (grid0.coords t) 1 = min 2048 (52432 - 2048 * (grid0.coords t 1).val)
    ∧ win0_0.xsize (grid0.coords t) 2 = 128 :=
  (by decide +kernel : ∀ t : Fin grid0.N, win0_0.index t = ![(grid0.coords t 0).val, (grid0.coords t 1).val, 0]
    ∧ win0_0.xsize (grid0.coords t) 0 = 1 ∧ win0_0.xsize (grid0.coords t) 1 = min 2048 (52432 - 2048 * (grid0.coords t 1).val)
    ∧ win0_0.xsize (grid0.coords t) 2 = 128)

/-- Window 0's buffer at a point, on its rows inside the array: the array's rows. -/
theorem rows_0 (c : Dev nD) (t : Fin cfg0.N) (d : S1x2048x128.Idx → BitVec 8) (r : Fin 2048) (l : Fin 128)
    (h : 2048 * (rowBlock t).val + r.val < 52432) :
    win0_0.fill (grid0.coords t) d (iblk m c 0 t) (ix3 0 r l) = V m c main_v0 (ix3 (batch t) ⟨2048 * (rowBlock t).val + r.val, h⟩ l) := by
  obtain ⟨hi, x0, x1, x2⟩ := geom_0 t
  have hm : win0_0.moved (grid0.coords t) (ix3 0 r l) = true := by
    rw [Window.moved_iff]
    intro a
    fin_cases a
    · show 0 < win0_0.xsize (grid0.coords t) 0; omega
    · show r.val < win0_0.xsize (grid0.coords t) 1; rw [x1]; have := r.isLt; change 2048 * (grid0.coords t 1).val + r.val < 52432 at h; omega
    · show l.val < win0_0.xsize (grid0.coords t) 2; omega
  unfold Window.fill
  rw [dif_pos hm]
  refine congrArg (V m c main_v0) (funext fun a => Fin.ext ?_)
  fin_cases a
  · show win0_0.index t 0 * 1 + 1 * 0 = (grid0.coords t 0).val; rw [hi]; show (grid0.coords t 0).val * 1 + 1 * 0 = _; omega
  · show win0_0.index t 1 * 2048 + 1 * r.val = 2048 * (grid0.coords t 1).val + r.val; rw [hi]
    show (grid0.coords t 1).val * 2048 + 1 * r.val = _; omega
  · show win0_0.index t 2 * 128 + 1 * l.val = l.val; rw [hi]; show 0 * 128 + 1 * l.val = _; omega

theorem geom_2 : ∀ t : Fin cfg0.N, win0_2.index t = ![(grid0.coords t 0).val, (grid0.coords t 1).val, 0]
    ∧ win0_2.xsize (grid0.coords t) 0 = 1 ∧ win0_2.xsize (grid0.coords t) 1 = min 10240 (262144 - 10240 * (grid0.coords t 1).val)
    ∧ win0_2.xsize (grid0.coords t) 2 = 128 :=
  (by decide +kernel : ∀ t : Fin grid0.N, win0_2.index t = ![(grid0.coords t 0).val, (grid0.coords t 1).val, 0]
    ∧ win0_2.xsize (grid0.coords t) 0 = 1 ∧ win0_2.xsize (grid0.coords t) 1 = min 10240 (262144 - 10240 * (grid0.coords t 1).val)
    ∧ win0_2.xsize (grid0.coords t) 2 = 128)

/-- Window 2's buffer at a point, on its rows inside the array: the array's rows. -/
theorem rows_2 (c : Dev nD) (t : Fin cfg0.N) (d : S1x10240x128.Idx → BitVec 8) (r : Fin 10240) (l : Fin 128)
    (h : 10240 * (rowBlock t).val + r.val < 262144) :
    win0_2.fill (grid0.coords t) d (iblk m c 2 t) (ix3 0 r l) = V m c main_v1 (ix3 (batch t) ⟨10240 * (rowBlock t).val + r.val, h⟩ l) := by
  obtain ⟨hi, x0, x1, x2⟩ := geom_2 t
  have hm : win0_2.moved (grid0.coords t) (ix3 0 r l) = true := by
    rw [Window.moved_iff]
    intro a
    fin_cases a
    · show 0 < win0_2.xsize (grid0.coords t) 0; omega
    · show r.val < win0_2.xsize (grid0.coords t) 1; rw [x1]; have := r.isLt; change 10240 * (grid0.coords t 1).val + r.val < 262144 at h; omega
    · show l.val < win0_2.xsize (grid0.coords t) 2; omega
  unfold Window.fill
  rw [dif_pos hm]
  refine congrArg (V m c main_v1) (funext fun a => Fin.ext ?_)
  fin_cases a
  · show win0_2.index t 0 * 1 + 1 * 0 = (grid0.coords t 0).val; rw [hi]; show (grid0.coords t 0).val * 1 + 1 * 0 = _; omega
  · show win0_2.index t 1 * 10240 + 1 * r.val = 10240 * (grid0.coords t 1).val + r.val; rw [hi]
    show (grid0.coords t 1).val * 10240 + 1 * r.val = _; omega
  · show win0_2.index t 2 * 128 + 1 * l.val = l.val; rw [hi]; show 0 * 128 + 1 * l.val = _; omega

theorem geom_4 : ∀ t : Fin cfg0.N, win0_4.index t = ![(grid0.coords t 0).val, (grid0.coords t 1).val, 0]
    ∧ win0_4.xsize (grid0.coords t) 0 = 1 ∧ win0_4.xsize (grid0.coords t) 1 = min 2048 (52432 - 2048 * (grid0.coords t 1).val)
    ∧ win0_4.xsize (grid0.coords t) 2 = 128 :=
  (by decide +kernel : ∀ t : Fin grid0.N, win0_4.index t = ![(grid0.coords t 0).val, (grid0.coords t 1).val, 0]
    ∧ win0_4.xsize (grid0.coords t) 0 = 1 ∧ win0_4.xsize (grid0.coords t) 1 = min 2048 (52432 - 2048 * (grid0.coords t 1).val)
    ∧ win0_4.xsize (grid0.coords t) 2 = 128)

/-- Window 4's buffer at a point, on its rows inside the array: the array's rows. -/
theorem rows_4 (c : Dev nD) (t : Fin cfg0.N) (d : S1x2048x128.Idx → BitVec 8) (r : Fin 2048) (l : Fin 128)
    (h : 2048 * (rowBlock t).val + r.val < 52432) :
    win0_4.fill (grid0.coords t) d (iblk m c 4 t) (ix3 0 r l) = V m c main_v2 (ix3 (batch t) ⟨2048 * (rowBlock t).val + r.val, h⟩ l) := by
  obtain ⟨hi, x0, x1, x2⟩ := geom_4 t
  have hm : win0_4.moved (grid0.coords t) (ix3 0 r l) = true := by
    rw [Window.moved_iff]
    intro a
    fin_cases a
    · show 0 < win0_4.xsize (grid0.coords t) 0; omega
    · show r.val < win0_4.xsize (grid0.coords t) 1; rw [x1]; have := r.isLt; change 2048 * (grid0.coords t 1).val + r.val < 52432 at h; omega
    · show l.val < win0_4.xsize (grid0.coords t) 2; omega
  unfold Window.fill
  rw [dif_pos hm]
  refine congrArg (V m c main_v2) (funext fun a => Fin.ext ?_)
  fin_cases a
  · show win0_4.index t 0 * 1 + 1 * 0 = (grid0.coords t 0).val; rw [hi]; show (grid0.coords t 0).val * 1 + 1 * 0 = _; omega
  · show win0_4.index t 1 * 2048 + 1 * r.val = 2048 * (grid0.coords t 1).val + r.val; rw [hi]
    show (grid0.coords t 1).val * 2048 + 1 * r.val = _; omega
  · show win0_4.index t 2 * 128 + 1 * l.val = l.val; rw [hi]; show 0 * 128 + 1 * l.val = _; omega

theorem geom_6 : ∀ t : Fin cfg0.N, win0_6.index t = ![(grid0.coords t 0).val, (grid0.coords t 1).val, 0]
    ∧ win0_6.xsize (grid0.coords t) 0 = 1 ∧ win0_6.xsize (grid0.coords t) 1 = min 10240 (262144 - 10240 * (grid0.coords t 1).val)
    ∧ win0_6.xsize (grid0.coords t) 2 = 128 :=
  (by decide +kernel : ∀ t : Fin grid0.N, win0_6.index t = ![(grid0.coords t 0).val, (grid0.coords t 1).val, 0]
    ∧ win0_6.xsize (grid0.coords t) 0 = 1 ∧ win0_6.xsize (grid0.coords t) 1 = min 10240 (262144 - 10240 * (grid0.coords t 1).val)
    ∧ win0_6.xsize (grid0.coords t) 2 = 128)

/-- Window 6's buffer at a point, on its rows inside the array: the array's rows. -/
theorem rows_6 (c : Dev nD) (t : Fin cfg0.N) (d : S1x10240x128.Idx → BitVec 8) (r : Fin 10240) (l : Fin 128)
    (h : 10240 * (rowBlock t).val + r.val < 262144) :
    win0_6.fill (grid0.coords t) d (iblk m c 6 t) (ix3 0 r l) = V m c main_v3 (ix3 (batch t) ⟨10240 * (rowBlock t).val + r.val, h⟩ l) := by
  obtain ⟨hi, x0, x1, x2⟩ := geom_6 t
  have hm : win0_6.moved (grid0.coords t) (ix3 0 r l) = true := by
    rw [Window.moved_iff]
    intro a
    fin_cases a
    · show 0 < win0_6.xsize (grid0.coords t) 0; omega
    · show r.val < win0_6.xsize (grid0.coords t) 1; rw [x1]; have := r.isLt; change 10240 * (grid0.coords t 1).val + r.val < 262144 at h; omega
    · show l.val < win0_6.xsize (grid0.coords t) 2; omega
  unfold Window.fill
  rw [dif_pos hm]
  refine congrArg (V m c main_v3) (funext fun a => Fin.ext ?_)
  fin_cases a
  · show win0_6.index t 0 * 1 + 1 * 0 = (grid0.coords t 0).val; rw [hi]; show (grid0.coords t 0).val * 1 + 1 * 0 = _; omega
  · show win0_6.index t 1 * 10240 + 1 * r.val = 10240 * (grid0.coords t 1).val + r.val; rw [hi]
    show (grid0.coords t 1).val * 10240 + 1 * r.val = _; omega
  · show win0_6.index t 2 * 128 + 1 * l.val = l.val; rw [hi]; show 0 * 128 + 1 * l.val = _; omega

theorem geom_1 : ∀ t : Fin cfg0.N, win0_1.index t = ![(grid0.coords t 0).val, 0, 0] :=
  (by decide +kernel : ∀ t : Fin grid0.N, win0_1.index t = ![(grid0.coords t 0).val, 0, 0])

/-- Window 1's block at a point is its batch's scales. -/
theorem rows_1 (c : Dev nD) (t : Fin cfg0.N) (r : Fin 8) (l : Fin 128) :
    iblk m c 1 t (ix3 (0 : Fin 1) r l) = V m c main_arg1 (ix3 (batch t) r l) := by
  have hi := geom_1 t
  refine congrArg (V m c main_arg1) (funext fun a => Fin.ext ?_)
  fin_cases a
  · show win0_1.index t 0 * 1 + 1 * 0 = (grid0.coords t 0).val; rw [hi]; show (grid0.coords t 0).val * 1 + 1 * 0 = _; omega
  · show win0_1.index t 1 * 8 + 1 * r.val = r.val; rw [hi]; show 0 * 8 + 1 * r.val = _; omega
  · show win0_1.index t 2 * 128 + 1 * l.val = l.val; rw [hi]; show 0 * 128 + 1 * l.val = _; omega

theorem geom_3 : ∀ t : Fin cfg0.N, win0_3.index t = ![(grid0.coords t 0).val, 0, 0] :=
  (by decide +kernel : ∀ t : Fin grid0.N, win0_3.index t = ![(grid0.coords t 0).val, 0, 0])

/-- Window 3's block at a point is its batch's scales. -/
theorem rows_3 (c : Dev nD) (t : Fin cfg0.N) (r : Fin 8) (l : Fin 128) :
    iblk m c 3 t (ix3 (0 : Fin 1) r l) = V m c main_arg3 (ix3 (batch t) r l) := by
  have hi := geom_3 t
  refine congrArg (V m c main_arg3) (funext fun a => Fin.ext ?_)
  fin_cases a
  · show win0_3.index t 0 * 1 + 1 * 0 = (grid0.coords t 0).val; rw [hi]; show (grid0.coords t 0).val * 1 + 1 * 0 = _; omega
  · show win0_3.index t 1 * 8 + 1 * r.val = r.val; rw [hi]; show 0 * 8 + 1 * r.val = _; omega
  · show win0_3.index t 2 * 128 + 1 * l.val = l.val; rw [hi]; show 0 * 128 + 1 * l.val = _; omega

theorem geom_5 : ∀ t : Fin cfg0.N, win0_5.index t = ![(grid0.coords t 0).val, 0, 0] :=
  (by decide +kernel : ∀ t : Fin grid0.N, win0_5.index t = ![(grid0.coords t 0).val, 0, 0])

/-- Window 5's block at a point is its batch's scales. -/
theorem rows_5 (c : Dev nD) (t : Fin cfg0.N) (r : Fin 8) (l : Fin 128) :
    iblk m c 5 t (ix3 (0 : Fin 1) r l) = V m c main_arg5 (ix3 (batch t) r l) := by
  have hi := geom_5 t
  refine congrArg (V m c main_arg5) (funext fun a => Fin.ext ?_)
  fin_cases a
  · show win0_5.index t 0 * 1 + 1 * 0 = (grid0.coords t 0).val; rw [hi]; show (grid0.coords t 0).val * 1 + 1 * 0 = _; omega
  · show win0_5.index t 1 * 8 + 1 * r.val = r.val; rw [hi]; show 0 * 8 + 1 * r.val = _; omega
  · show win0_5.index t 2 * 128 + 1 * l.val = l.val; rw [hi]; show 0 * 128 + 1 * l.val = _; omega

theorem geom_7 : ∀ t : Fin cfg0.N, win0_7.index t = ![(grid0.coords t 0).val, 0, 0] :=
  (by decide +kernel : ∀ t : Fin grid0.N, win0_7.index t = ![(grid0.coords t 0).val, 0, 0])

/-- Window 7's block at a point is its batch's scales. -/
theorem rows_7 (c : Dev nD) (t : Fin cfg0.N) (r : Fin 8) (l : Fin 128) :
    iblk m c 7 t (ix3 (0 : Fin 1) r l) = V m c main_arg7 (ix3 (batch t) r l) := by
  have hi := geom_7 t
  refine congrArg (V m c main_arg7) (funext fun a => Fin.ext ?_)
  fin_cases a
  · show win0_7.index t 0 * 1 + 1 * 0 = (grid0.coords t 0).val; rw [hi]; show (grid0.coords t 0).val * 1 + 1 * 0 = _; omega
  · show win0_7.index t 1 * 8 + 1 * r.val = r.val; rw [hi]; show 0 * 8 + 1 * r.val = _; omega
  · show win0_7.index t 2 * 128 + 1 * l.val = l.val; rw [hi]; show 0 * 128 + 1 * l.val = _; omega

theorem geom_8 : ∀ t : Fin cfg0.N, win0_8.index t = ![(grid0.coords t 0).val, (grid0.coords t 1).val, 0]
    ∧ win0_8.xsize (grid0.coords t) 0 = 1 ∧ win0_8.xsize (grid0.coords t) 1 = min 20480 (524288 - 20480 * (grid0.coords t 1).val)
    ∧ win0_8.xsize (grid0.coords t) 2 = 128 :=
  (by decide +kernel : ∀ t : Fin grid0.N, win0_8.index t = ![(grid0.coords t 0).val, (grid0.coords t 1).val, 0]
    ∧ win0_8.xsize (grid0.coords t) 0 = 1 ∧ win0_8.xsize (grid0.coords t) 1 = min 20480 (524288 - 20480 * (grid0.coords t 1).val)
    ∧ win0_8.xsize (grid0.coords t) 2 = 128)

/-- The blocks of window 8 cover its array. -/
theorem covers_8 : (cfg0.win 8).Covers := by decide +kernel

/-- The whole array window 8's blocks are written back to, at the end. -/
def final_8 (c : Dev nD) : S2x524288x128.Idx → EReal :=
  outArr (V m c main_v0) (V m c main_arg1) (V m c main_v1) (V m c main_arg3)

/-- What the body computes from a point's blocks is, on the rows inside the array, the closed form's block. -/
theorem cut_8 (c : Dev nD) (t : Fin cfg0.N) (d0 : S1x2048x128.Idx → BitVec 8) (d2 : S1x10240x128.Idx → BitVec 8) :
    win0_8.cut (grid0.coords t) (blockVal (win0_0.fill (grid0.coords t) d0 (iblk m c 0 t)) (iblk m c 1 t)
        (win0_2.fill (grid0.coords t) d2 (iblk m c 2 t)) (iblk m c 3 t))
      = (win0_8.blk t).view.read (Elt Ideal) (final_8 m c) := by
  obtain ⟨hi, x0, x1, x2⟩ := geom_8 t
  funext j
  have hj1 : (j 1).val < min 20480 (524288 - 20480 * (grid0.coords t 1).val) := x1 ▸ (j 1).isLt
  have hj0 : (j 0).val < 1 := x0 ▸ (j 0).isLt
  refine (rowVal_eq_outVal (V m c main_v0) (V m c main_arg1) (V m c main_v1) (V m c main_arg3) (batch t) (rowBlock t).val _ _ _ _
    (fun r l h => rows_0 m c t d0 r l h) (rows_1 m c t) (fun r l h => rows_2 m c t d2 r l h) (rows_3 m c t) _ _ (by
      show 20480 * (grid0.coords t 1).val + (j 1).val < 524288; omega)).trans ?_
  show outVal _ _ _ _ _ _ _ = outVal _ _ _ _ _ _ _
  congr 1
  · refine Fin.ext ?_
    show (grid0.coords t 0).val = win0_8.index t 0 * 1 + 1 * (j 0).val
    rw [hi]; show (grid0.coords t 0).val = (grid0.coords t 0).val * 1 + 1 * (j 0).val; omega
  · refine Fin.ext ?_
    show 20480 * (grid0.coords t 1).val + (j 1).val = win0_8.index t 1 * 20480 + 1 * (j 1).val
    rw [hi]; show _ = (grid0.coords t 1).val * 20480 + 1 * (j 1).val; omega
  · refine Fin.ext ?_
    show (j 2).val = win0_8.index t 2 * 128 + 1 * (j 2).val
    rw [hi]; show _ = 0 * 128 + 1 * (j 2).val; omega

theorem geom_9 : ∀ t : Fin cfg0.N, win0_9.index t = ![(grid0.coords t 0).val, (grid0.coords t 1).val, 0]
    ∧ win0_9.xsize (grid0.coords t) 0 = 1 ∧ win0_9.xsize (grid0.coords t) 1 = min 20480 (524288 - 20480 * (grid0.coords t 1).val)
    ∧ win0_9.xsize (grid0.coords t) 2 = 128 :=
  (by decide +kernel : ∀ t : Fin grid0.N, win0_9.index t = ![(grid0.coords t 0).val, (grid0.coords t 1).val, 0]
    ∧ win0_9.xsize (grid0.coords t) 0 = 1 ∧ win0_9.xsize (grid0.coords t) 1 = min 20480 (524288 - 20480 * (grid0.coords t 1).val)
    ∧ win0_9.xsize (grid0.coords t) 2 = 128)

/-- The blocks of window 9 cover its array. -/
theorem covers_9 : (cfg0.win 9).Covers := by decide +kernel

/-- The whole array window 9's blocks are written back to, at the end. -/
def final_9 (c : Dev nD) : S2x524288x128.Idx → EReal :=
  outArr (V m c main_v2) (V m c main_arg5) (V m c main_v3) (V m c main_arg7)

/-- What the body computes from a point's blocks is, on the rows inside the array, the closed form's block. -/
theorem cut_9 (c : Dev nD) (t : Fin cfg0.N) (d4 : S1x2048x128.Idx → BitVec 8) (d6 : S1x10240x128.Idx → BitVec 8) :
    win0_9.cut (grid0.coords t) (blockVal (win0_4.fill (grid0.coords t) d4 (iblk m c 4 t)) (iblk m c 5 t)
        (win0_6.fill (grid0.coords t) d6 (iblk m c 6 t)) (iblk m c 7 t))
      = (win0_9.blk t).view.read (Elt Ideal) (final_9 m c) := by
  obtain ⟨hi, x0, x1, x2⟩ := geom_9 t
  funext j
  have hj1 : (j 1).val < min 20480 (524288 - 20480 * (grid0.coords t 1).val) := x1 ▸ (j 1).isLt
  have hj0 : (j 0).val < 1 := x0 ▸ (j 0).isLt
  refine (rowVal_eq_outVal (V m c main_v2) (V m c main_arg5) (V m c main_v3) (V m c main_arg7) (batch t) (rowBlock t).val _ _ _ _
    (fun r l h => rows_4 m c t d4 r l h) (rows_5 m c t) (fun r l h => rows_6 m c t d6 r l h) (rows_7 m c t) _ _ (by
      show 20480 * (grid0.coords t 1).val + (j 1).val < 524288; omega)).trans ?_
  show outVal _ _ _ _ _ _ _ = outVal _ _ _ _ _ _ _
  congr 1
  · refine Fin.ext ?_
    show (grid0.coords t 0).val = win0_9.index t 0 * 1 + 1 * (j 0).val
    rw [hi]; show (grid0.coords t 0).val = (grid0.coords t 0).val * 1 + 1 * (j 0).val; omega
  · refine Fin.ext ?_
    show 20480 * (grid0.coords t 1).val + (j 1).val = win0_9.index t 1 * 20480 + 1 * (j 1).val
    rw [hi]; show _ = (grid0.coords t 1).val * 20480 + 1 * (j 1).val; omega
  · refine Fin.ext ?_
    show (j 2).val = win0_9.index t 2 * 128 + 1 * (j 2).val
    rw [hi]; show _ = 0 * 128 + 1 * (j 2).val; omega

end Cert.KernelIdealProof

end
-- ==== Proof.IdealPoint.lean ====
/-
  The exact kernel's body at a grid point, in the form the launch takes: the result windows' buffers end holding, on the rows
  inside the arrays, the blocks of the closed form `outArr`.
-/
module

public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Loops
public import Idealize.ShloMosaic.Lib.Pipeline.FrameSuffix
public import Idealize.ShloMosaic.Lib.Tactic
public import proofs.«01_k».proof.Proof.IdealBody
public import proofs.«01_k».proof.Proof.Windows

@[expose] public section

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

local notation "𝕄" => MT nD τ sig Unit (Elt Ideal) ℕ (UR sig nD τ) ℕ

variable (m : (ℓ : Loc nD τ sig) → Buf (Elt Ideal) ℓ)

/-- The proof data: the arrays as the region finds them; after the body each input buffer holds its block and each result
    buffer its block of the closed form (on the rows inside the arrays; zeros past them). -/
def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => (0#8 : BitVec 8)) (iblk m c 0 t)
    | ⟨1, _⟩ => iblk m c 1 t
    | ⟨2, _⟩ => win0_2.fill (grid0.coords t) (fun _ => (0#8 : BitVec 8)) (iblk m c 2 t)
    | ⟨3, _⟩ => iblk m c 3 t
    | ⟨4, _⟩ => win0_4.fill (grid0.coords t) (fun _ => (0#8 : BitVec 8)) (iblk m c 4 t)
    | ⟨5, _⟩ => iblk m c 5 t
    | ⟨6, _⟩ => win0_6.fill (grid0.coords t) (fun _ => (0#8 : BitVec 8)) (iblk m c 6 t)
    | ⟨7, _⟩ => iblk m c 7 t
    | ⟨8, _⟩ => win0_8.fill (grid0.coords t) (fun _ => (0 : EReal)) ((win0_8.blk t).view.read (Elt Ideal) (final_8 m c))
    | ⟨9, _⟩ => win0_9.fill (grid0.coords t) (fun _ => (0 : EReal)) ((win0_9.blk t).view.read (Elt Ideal) (final_9 m c))
  Φ _ := Pipeline.ΦA spec0 c
  q _ := fullShare
  owed _ := 0

theorem A_eq (c : Dev nD) (w : Fin cfg0.W) : (dats m 0 c).A w = V m c (Pipeline.arrRef spec0 w) := rfl

theorem before_0 (c : Dev nD) (t : Fin cfg0.N) (d) :
    (dats m 0 c).before 0 t d = win0_0.fill (grid0.coords t) d (iblk m c 0 t) := by
  unfold Dat.before; rw [if_pos (fetch0_0 t)]; rfl
theorem before_2 (c : Dev nD) (t : Fin cfg0.N) (d) :
    (dats m 0 c).before 2 t d = win0_2.fill (grid0.coords t) d (iblk m c 2 t) := by
  unfold Dat.before; rw [if_pos (fetch0_2 t)]; rfl
theorem before_4 (c : Dev nD) (t : Fin cfg0.N) (d) :
    (dats m 0 c).before 4 t d = win0_4.fill (grid0.coords t) d (iblk m c 4 t) := by
  unfold Dat.before; rw [if_pos (fetch0_4 t)]; rfl
theorem before_6 (c : Dev nD) (t : Fin cfg0.N) (d) :
    (dats m 0 c).before 6 t d = win0_6.fill (grid0.coords t) d (iblk m c 6 t) := by
  unfold Dat.before; rw [if_pos (fetch0_6 t)]; rfl
theorem before_1 (c : Dev nD) (t : Fin cfg0.N) (d) : (dats m 0 c).before 1 t d = iblk m c 1 t :=
  before0_1_of m (dats m 0 c) (A_eq m c 1) (fun _ => rfl) t d
theorem before_3 (c : Dev nD) (t : Fin cfg0.N) (d) : (dats m 0 c).before 3 t d = iblk m c 3 t :=
  before0_3_of m (dats m 0 c) (A_eq m c 3) (fun _ => rfl) t d
theorem before_5 (c : Dev nD) (t : Fin cfg0.N) (d) : (dats m 0 c).before 5 t d = iblk m c 5 t :=
  before0_5_of m (dats m 0 c) (A_eq m c 5) (fun _ => rfl) t d
theorem before_7 (c : Dev nD) (t : Fin cfg0.N) (d) : (dats m 0 c).before 7 t d = iblk m c 7 t :=
  before0_7_of m (dats m 0 c) (A_eq m c 7) (fun _ => rfl) t d

/-- The body the pipeline calls at point `t` is the kernel at that point's staging buffers. -/
theorem defs₀_row (t : Fin cfg0.N) :
    defs₀ (F := Ideal) .tc cfg0.body (cfg0.bodyArgs t (cfg0.slots t)) = bodyAt0 t := by
  unfold defs₀; rw [Defs.onTc_tc]

theorem leaves_0 (c : Dev nD) (t : Fin cfg0.N) (d) :
    win0_0.fill (grid0.coords t) d (win0_0.cut (grid0.coords t) ((dats m 0 c).after 0 t)) = win0_0.fill (grid0.coords t) d (iblk m c 0 t) :=
  congrArg (win0_0.fill (grid0.coords t) d) (win0_0.cut_fill _ _ _)
theorem leaves_2 (c : Dev nD) (t : Fin cfg0.N) (d) :
    win0_2.fill (grid0.coords t) d (win0_2.cut (grid0.coords t) ((dats m 0 c).after 2 t)) = win0_2.fill (grid0.coords t) d (iblk m c 2 t) :=
  congrArg (win0_2.fill (grid0.coords t) d) (win0_2.cut_fill _ _ _)
theorem leaves_4 (c : Dev nD) (t : Fin cfg0.N) (d) :
    win0_4.fill (grid0.coords t) d (win0_4.cut (grid0.coords t) ((dats m 0 c).after 4 t)) = win0_4.fill (grid0.coords t) d (iblk m c 4 t) :=
  congrArg (win0_4.fill (grid0.coords t) d) (win0_4.cut_fill _ _ _)
theorem leaves_6 (c : Dev nD) (t : Fin cfg0.N) (d) :
    win0_6.fill (grid0.coords t) d (win0_6.cut (grid0.coords t) ((dats m 0 c).after 6 t)) = win0_6.fill (grid0.coords t) d (iblk m c 6 t) :=
  congrArg (win0_6.fill (grid0.coords t) d) (win0_6.cut_fill _ _ _)
theorem leaves_8 (c : Dev nD) (t : Fin cfg0.N) (d0 d2) :
    blockVal (win0_0.fill (grid0.coords t) d0 (iblk m c 0 t)) (iblk m c 1 t) (win0_2.fill (grid0.coords t) d2 (iblk m c 2 t)) (iblk m c 3 t)
      = win0_8.fill (grid0.coords t)
          (blockVal (win0_0.fill (grid0.coords t) d0 (iblk m c 0 t)) (iblk m c 1 t) (win0_2.fill (grid0.coords t) d2 (iblk m c 2 t)) (iblk m c 3 t))
          (win0_8.cut (grid0.coords t) ((dats m 0 c).after 8 t)) :=
  (win0_8.fill_congr_cut (grid0.coords t) ((cut_8 m c t d0 d2).trans (win0_8.cut_fill (grid0.coords t) _ _).symm)).symm
theorem leaves_9 (c : Dev nD) (t : Fin cfg0.N) (d4 d6) :
    blockVal (win0_4.fill (grid0.coords t) d4 (iblk m c 4 t)) (iblk m c 5 t) (win0_6.fill (grid0.coords t) d6 (iblk m c 6 t)) (iblk m c 7 t)
      = win0_9.fill (grid0.coords t)
          (blockVal (win0_4.fill (grid0.coords t) d4 (iblk m c 4 t)) (iblk m c 5 t) (win0_6.fill (grid0.coords t) d6 (iblk m c 6 t)) (iblk m c 7 t))
          (win0_9.cut (grid0.coords t) ((dats m 0 c).after 9 t)) :=
  (win0_9.fill_congr_cut (grid0.coords t) ((cut_9 m c t d4 d6).trans (win0_9.cut_fill (grid0.coords t) _ _).symm)).symm

set_option maxHeartbeats 4000000 in
/-- The kernel body at point `t`, each staging buffer as the pipeline hands it over and as it takes it back. -/
theorem sound_body (c : Dev nD) (t : Fin cfg0.N) :
    iprop((dats m 0 c).Φ t.castSucc ∗ (dats m 0 c).owesAt () t.castSucc
      ∗ iprop(∃ d, owns (c : Thread nD τ) (st0_0 t) fullShare ((dats m 0 c).before 0 t d))
      ∗ iprop(∃ d, owns (c : Thread nD τ) (st0_1 t) fullShare ((dats m 0 c).before 1 t d))
      ∗ iprop(∃ d, owns (c : Thread nD τ) (st0_2 t) fullShare ((dats m 0 c).before 2 t d))
      ∗ iprop(∃ d, owns (c : Thread nD τ) (st0_3 t) fullShare ((dats m 0 c).before 3 t d))
      ∗ iprop(∃ d, owns (c : Thread nD τ) (st0_4 t) fullShare ((dats m 0 c).before 4 t d))
      ∗ iprop(∃ d, owns (c : Thread nD τ) (st0_5 t) fullShare ((dats m 0 c).before 5 t d))
      ∗ iprop(∃ d, owns (c : Thread nD τ) (st0_6 t) fullShare ((dats m 0 c).before 6 t d))
      ∗ iprop(∃ d, owns (c : Thread nD τ) (st0_7 t) fullShare ((dats m 0 c).before 7 t d))
      ∗ iprop(∃ d, owns (c : Thread nD τ) (st0_8 t) fullShare ((dats m 0 c).before 8 t d))
      ∗ iprop(∃ d, owns (c : Thread nD τ) (st0_9 t) fullShare ((dats m 0 c).before 9 t d)))
    ⊢ wp frame (wpE (defs₀ (F := Ideal)) Variants.none (c : Thread nD τ) none) Set.univ (bodyAt0 (F := Ideal) t) (fun _ =>
      iprop((dats m 0 c).Φ t.succ ∗ (dats m 0 c).owesAt () t.succ
      ∗ iprop(∃ d, owns (c : Thread nD τ) (st0_0 t) fullShare (win0_0.fill (grid0.coords t) d (win0_0.cut (grid0.coords t) ((dats m 0 c).after 0 t))))
      ∗ owns (c : Thread nD τ) (st0_1 t) fullShare ((dats m 0 c).after 1 t)
      ∗ iprop(∃ d, owns (c : Thread nD τ) (st0_2 t) fullShare (win0_2.fill (grid0.coords t) d (win0_2.cut (grid0.coords t) ((dats m 0 c).after 2 t))))
      ∗ owns (c : Thread nD τ) (st0_3 t) fullShare ((dats m 0 c).after 3 t)
      ∗ iprop(∃ d, owns (c : Thread nD τ) (st0_4 t) fullShare (win0_4.fill (grid0.coords t) d (win0_4.cut (grid0.coords t) ((dats m 0 c).after 4 t))))
      ∗ owns (c : Thread nD τ) (st0_5 t) fullShare ((dats m 0 c).after 5 t)
      ∗ iprop(∃ d, owns (c : Thread nD τ) (st0_6 t) fullShare (win0_6.fill (grid0.coords t) d (win0_6.cut (grid0.coords t) ((dats m 0 c).after 6 t))))
      ∗ owns (c : Thread nD τ) (st0_7 t) fullShare ((dats m 0 c).after 7 t)
      ∗ iprop(∃ d, owns (c : Thread nD τ) (st0_8 t) fullShare (win0_8.fill (grid0.coords t) d (win0_8.cut (grid0.coords t) ((dats m 0 c).after 8 t))))
      ∗ iprop(∃ d, owns (c : Thread nD τ) (st0_9 t) fullShare (win0_9.fill (grid0.coords t) d (win0_9.cut (grid0.coords t) ((dats m 0 c).after 9 t)))))) := by
  simp only [before_0, before_1, before_2, before_3, before_4, before_5, before_6, before_7, owns]
  rw [show (dats m 0 c).Φ t.succ = (dats m 0 c).Φ t.castSucc from rfl,
    show (dats m 0 c).owesAt () t.succ = (dats m 0 c).owesAt () t.castSucc from rfl]
  iintro ⟨HΦ, Ho, ⟨%d0, %f0, %h0, H0⟩, ⟨%d1, %f1, %h1, H1⟩, ⟨%d2, %f2, %h2, H2⟩, ⟨%d3, %f3, %h3, H3⟩, ⟨%d4, %f4, %h4, H4⟩,
    ⟨%d5, %f5, %h5, H5⟩, ⟨%d6, %f6, %h6, H6⟩, ⟨%d7, %f7, %h7, H7⟩, ⟨%X8, %f8, %h8, H8⟩, ⟨%X9, %f9, %h9, H9⟩⟩
  iapply (body_run (F := Ideal) c (grid0.coords t) _ _ _ _ _ _ _ _ _ _ _ _ _ _ _ _ _ _ _ _ f0 f1 f2 f3 f4 f5 f6 f7 f8 f9 _)
  isplitl [H0 H1 H2 H3 H4 H5 H6 H7 H8 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · iintro ⟨H0, H1, H2, H3, H4, H5, H6, H7, H8, H9⟩
    isplitl [HΦ]; · iexact HΦ
    isplitl [Ho]; · iexact Ho
    isplitl [H0]
    · iexists d0, f0; isplitr; · ipureintro; exact h0.trans (leaves_0 m c t d0).symm
      iexact H0
    isplitl [H1]
    · iexists f1; isplitr; · ipureintro; exact h1
      iexact H1
    isplitl [H2]
    · iexists d2, f2; isplitr; · ipureintro; exact h2.trans (leaves_2 m c t d2).symm
      iexact H2
    isplitl [H3]
    · iexists f3; isplitr; · ipureintro; exact h3
      iexact H3
    isplitl [H4]
    · iexists d4, f4; isplitr; · ipureintro; exact h4.trans (leaves_4 m c t d4).symm
      iexact H4
    isplitl [H5]
    · iexists f5; isplitr; · ipureintro; exact h5
      iexact H5
    isplitl [H6]
    · iexists d6, f6; isplitr; · ipureintro; exact h6.trans (leaves_6 m c t d6).symm
      iexact H6
    isplitl [H7]
    · iexists f7; isplitr; · ipureintro; exact h7
      iexact H7
    isplitl [H8]
    · iexists (blockVal (win0_0.fill (grid0.coords t) d0 (iblk m c 0 t)) (iblk m c 1 t) (win0_2.fill (grid0.coords t) d2 (iblk m c 2 t)) (iblk m c 3 t)), _
      isplitr; swap; · iexact H8
      ipureintro
      refine Eq.trans ?_ (leaves_8 m c t d0 d2)
      refine (read_t1 c (grid0.coords t) _ _ _ _ _ _ _ _ _ _ _ _ _ _ _ _ _ _ _ _ f0 f1 f2 f3 f8).trans ?_
      exact congr (congr (congr (congrArg blockVal h0) h1) h2) h3
    · iexists (blockVal (win0_4.fill (grid0.coords t) d4 (iblk m c 4 t)) (iblk m c 5 t) (win0_6.fill (grid0.coords t) d6 (iblk m c 6 t)) (iblk m c 7 t)), _
      isplitr; swap; · iexact H9
      ipureintro
      refine Eq.trans ?_ (leaves_9 m c t d4 d6)
      refine (read_t2 c (grid0.coords t) _ _ _ _ _ _ _ _ _ _ _ _ _ _ _ _ _ _ _ _ f4 f5 f6 f7 f9).trans ?_
      exact congr (congr (congr (congrArg blockVal h4) h5) h6) h7

/-- The body obligation of the launch. -/
theorem body_obligation (c : Dev nD) :
    BodyObligationLoose (dats m 0 c) defs₀ Variants.none () Set.univ := fun t => by
  rw [bigSep_W0, bigSep_W0, defs₀_row]
  exact triple_restated (sound_body m c t) rfl .rfl fun _ => .rfl

end Cert.KernelIdealProof

end
-- ==== Proof.IdealRun.lean ====
/-
  The launch of the exact kernel: every execution terminates with the two results at the closed form `outArr` of the
  arguments, reshaped, and with every argument array and every semaphore counter as launched.
-/
module

public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Loops
public import Idealize.ShloMosaic.Lib.Pipeline.FrameSuffix
public import Idealize.ShloMosaic.Lib.Tactic
public import Idealize.ShloMosaic.Lib.StableHlo.Run
public import proofs.«01_k».proof.Proof.IdealPoint

@[expose] public section

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

local notation "𝕄" => MT nD τ sig Unit (Elt Ideal) ℕ (UR sig nD τ) ℕ

variable (m : (ℓ : Loc nD τ sig) → Buf (Elt Ideal) ℓ) (ρ : Dev nD → PrngReg)

/-- The region finds `main_v0` at the reshape of `main_arg0`. -/
theorem V_main_v0 (c : Dev nD) : V m c main_v0 = shapeCast S2x52432x128 (m ((c : Thread nD τ).loc main_arg0) : S2x6554x8x128.Idx → BitVec 8) shapeCasts_S2x6554x8x128_S2x52432x128 := by
  simp only [V, V0, hostOps0, List.flatten_cons, List.flatten_nil, List.append_nil]
  after_results_simp
  rfl
/-- The region finds `main_v1` at the reshape of `main_arg2`. -/
theorem V_main_v1 (c : Dev nD) : V m c main_v1 = shapeCast S2x262144x128 (m ((c : Thread nD τ).loc main_arg2) : S2x32768x8x128.Idx → BitVec 8) shapeCasts_S2x32768x8x128_S2x262144x128 := by
  simp only [V, V0, hostOps0, List.flatten_cons, List.flatten_nil, List.append_nil]
  after_results_simp
  rfl
/-- The region finds `main_v2` at the reshape of `main_arg4`. -/
theorem V_main_v2 (c : Dev nD) : V m c main_v2 = shapeCast S2x52432x128 (m ((c : Thread nD τ).loc main_arg4) : S2x6554x8x128.Idx → BitVec 8) shapeCasts_S2x6554x8x128_S2x52432x128 := by
  simp only [V, V0, hostOps0, List.flatten_cons, List.flatten_nil, List.append_nil]
  after_results_simp
  rfl
/-- The region finds `main_v3` at the reshape of `main_arg6`. -/
theorem V_main_v3 (c : Dev nD) : V m c main_v3 = shapeCast S2x262144x128 (m ((c : Thread nD τ).loc main_arg6) : S2x32768x8x128.Idx → BitVec 8) shapeCasts_S2x32768x8x128_S2x262144x128 := by
  simp only [V, V0, hostOps0, List.flatten_cons, List.flatten_nil, List.append_nil]
  after_results_simp
  rfl

/-- Window 8's array ends at the closed form. -/
theorem arr_8 (c : Dev nD) : (dats m 0 c).arrAt 8 cfg0.N = final_8 m c := by
  refine (dats m 0 c).arrAt_eq_of_covers 8 _ covers_8 fun t hf y => ?_
  exact win0_8.fill_xinj (grid0.coords t) (fun _ => (0 : EReal)) ((win0_8.blk t).view.read (Elt Ideal) (final_8 m c)) y

/-- The lines after the region leave `main_v5` at the reshape of window 8's array. -/
theorem tail_main_v5 (c : Dev nD) : Pipeline.afterTail₀ cfgs (dats m) 0 (V0 m) [hostOps1] c main_v5
    = shapeCast S2x65536x8x128 (final_8 m c) shapeCasts_S2x524288x128_S2x65536x8x128 := by
  have h : Pipeline.withArrays (τ := τ) spec0 c (V0 m c) (fun w => (dats m 0 c).arrAt w cfg0.N) (Proc.devRef .tc main_v4_0) = final_8 m c :=
    (Pipeline.withArrays_arr spec0 (by decide) c (V0 m c) (fun w => (dats m 0 c).arrAt w cfg0.N) 8).trans (arr_8 m c)
  rw [← h]
  unfold Pipeline.afterTail₀
  simp only [hostOps1, List.flatten_cons, List.flatten_nil, List.append_nil]
  after_results_simp
  rfl

/-- Window 9's array ends at the closed form. -/
theorem arr_9 (c : Dev nD) : (dats m 0 c).arrAt 9 cfg0.N = final_9 m c := by
  refine (dats m 0 c).arrAt_eq_of_covers 9 _ covers_9 fun t hf y => ?_
  exact win0_9.fill_xinj (grid0.coords t) (fun _ => (0 : EReal)) ((win0_9.blk t).view.read (Elt Ideal) (final_9 m c)) y

/-- The lines after the region leave `main_v6` at the reshape of window 9's array. -/
theorem tail_main_v6 (c : Dev nD) : Pipeline.afterTail₀ cfgs (dats m) 0 (V0 m) [hostOps1] c main_v6
    = shapeCast S2x65536x8x128 (final_9 m c) shapeCasts_S2x524288x128_S2x65536x8x128 := by
  have h : Pipeline.withArrays (τ := τ) spec0 c (V0 m c) (fun w => (dats m 0 c).arrAt w cfg0.N) (Proc.devRef .tc main_v4_1) = final_9 m c :=
    (Pipeline.withArrays_arr spec0 (by decide) c (V0 m c) (fun w => (dats m 0 c).arrAt w cfg0.N) 9).trans (arr_9 m c)
  rw [← h]
  unfold Pipeline.afterTail₀
  simp only [hostOps1, List.flatten_cons, List.flatten_nil, List.append_nil]
  after_results_simp
  rfl

set_option backward.isDefEq.respectTransparency.types false in
set_option maxHeartbeats 4000000 in
/-- THE RUN: every execution of @main terminates with the results at the closed form and with every argument array and every
    semaphore counter as launched. -/
theorem run :
    θ_run defs (onTc (τ := τ) (main (F := Ideal))) ⟨m, fun _ => 0, ρ⟩ (fun r => (∀ c : Dev nD,
      (r.2.mem ((c.tc : Thread nD τ).loc main_v5) = shapeCast S2x65536x8x128 (final_8 m c) shapeCasts_S2x524288x128_S2x65536x8x128
      ∧ r.2.mem ((c.tc : Thread nD τ).loc main_v6) = shapeCast S2x65536x8x128 (final_9 m c) shapeCasts_S2x524288x128_S2x65536x8x128)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh)
    (hkeep := sfx_keeps) (hmain := hmain m Variants.none) (hA := A_eq m) (hΦ := fun _ _ => rfl)
    (Q' := _) (hQ' := fun r h => ⟨fun c =>
      ⟨⟨((h.1 c).2 main_v5 (Pipeline.mem_restRefs_of main_v5 (by decide) (by decide))).trans (tail_main_v5 m c),
        ((h.1 c).2 main_v6 (Pipeline.mem_restRefs_of main_v6 (by decide) (by decide))).trans (tail_main_v6 m c)⟩,
       ((h.1 c).2 main_arg0 (Pipeline.mem_restRefs_of main_arg0 (by decide) (by decide))).trans (W_main_arg0 m (dats m) c),
       ((h.1 c).1 1).trans (((dats m 0 c).arrAt_in 1 rfl _).trans (V_main_arg1 m c)),
       ((h.1 c).2 main_arg2 (Pipeline.mem_restRefs_of main_arg2 (by decide) (by decide))).trans (W_main_arg2 m (dats m) c),
       ((h.1 c).1 3).trans (((dats m 0 c).arrAt_in 3 rfl _).trans (V_main_arg3 m c)),
       ((h.1 c).2 main_arg4 (Pipeline.mem_restRefs_of main_arg4 (by decide) (by decide))).trans (W_main_arg4 m (dats m) c),
       ((h.1 c).1 5).trans (((dats m 0 c).arrAt_in 5 rfl _).trans (V_main_arg5 m c)),
       ((h.1 c).2 main_arg6 (Pipeline.mem_restRefs_of main_arg6 (by decide) (by decide))).trans (W_main_arg6 m (dats m) c),
       ((h.1 c).1 7).trans (((dats m 0 c).arrAt_in 7 rfl _).trans (V_main_arg7 m c))⟩, h.2⟩)

end Cert.KernelIdealProof

end
-- ==== Proof.RefIndex.lean ====
/-
  Which anchor row the reference reads for a token: the integer part of the reference, at an index. A row number is the
  token number floor-divided by ten, wrapped as a python index (it is never negative), and the gather reads the anchor
  array at that row.
-/
module

public import proofs.«01_k».proof.Proof.Gen.ReferenceIdeal
public import Idealize.ShloMosaic.Lib.Routing.Words
public import Idealize.ShloMosaic.Lib.Routing.OpsPair
public import Idealize.ShloMosaic.Lib.Pointwise
public import Idealize.ShloMosaic.PureOps.Ideal

@[expose] public section

noncomputable section

namespace Cert.RefProof

open Cert.ReferenceIdeal Cert.ReferenceIdeal.Gen
open Idealize.ShloMosaic

/-- The row number of each pair's token: the token number floor-divided by ten. -/
def groupOf (x : IVec S32768 32) : IVec S32768 32 :=
  Routing.pyDiv bcast_S_S32768 x (id (constantI S_ 32 10#32))

/-- A row number wrapped as a python index, as a column: what the gather takes. -/
def rowCol (q : IVec S32768 32) : IVec S32768x1 32 :=
  broadcastInDim S32768x1 ![0] bcast_S32768_S32768x1_0
    (select (cmpi .slt q (broadcastInDim S32768 ![] bcast_S_S32768 (constantI S_ 32 0#32)))
      (addi q (broadcastInDim S32768 ![] bcast_S_S32768 (constantI S_ 32 6554#32))) q)

/-- The numbers of the even tokens, `2 j`. -/
def evenTok : IVec S32768 32 :=
  muli (broadcastInDim S32768 ![] bcast_S_S32768 (constantI S_ 32 2#32)) (iotaInDim S32768 32 0)

/-- The numbers of the odd tokens, `2 j + 1`. -/
def oddTok : IVec S32768 32 :=
  addi (muli (broadcastInDim S32768 ![] bcast_S_S32768 (constantI S_ 32 2#32)) (iotaInDim S32768 32 0))
    (broadcastInDim S32768 ![] bcast_S_S32768 (constantI S_ 32 1#32))

theorem evenTok_apply (j : Fin 32768) : evenTok (ix1 j) = BitVec.ofNat 32 (2 * j.val) :=
  (BitVec.ofNat_mul 2 j.val).symm

theorem oddTok_apply (j : Fin 32768) : oddTok (ix1 j) = BitVec.ofNat 32 (2 * j.val + 1) := by
  refine Eq.trans ?_ (BitVec.ofNat_add (2 * j.val) 1).symm
  exact congrArg (· + 1#32) (evenTok_apply j)

/-- The column entry of a pair whose token has number `a`. -/
theorem rowCol_apply (x : IVec S32768 32) (j : Fin 32768) (a : ℕ) (hx : x (ix1 j) = BitVec.ofNat 32 a) (ha : a < 65536) :
    rowCol (groupOf x) (ix2 j (0 : Fin 1)) = BitVec.ofNat 32 (a / 10) := by
  have hg : groupOf x (ix1 j) = BitVec.ofNat 32 (a / 10) :=
    Routing.pyDiv_ap bcast_S_S32768 x _ (ix1 j) (b := 10) hx rfl (by omega) (by decide) (by decide)
  refine (Routing.bcCol (n := 32768) bcast_S32768_S32768x1_0 _ j).trans ?_
  refine (Routing.wrap_of_lt (groupOf x (ix1 j)) _ ?_).trans hg
  rw [hg, BitVec.toNat_ofNat]
  omega

/-- The gather read at an index: where the column holds row number `r`, the anchor array's row `r`. -/
theorem gather_apply {α : Type} (x : S2x6554x8x128.Idx → α) (idx : IVec S32768x1 32) (b : Fin 2) (j : Fin 32768) (h : Fin 8)
    (l : Fin 128) (r : Fin 6554) (hr : idx (ix2 j (0 : Fin 1)) = BitVec.ofNat 32 r.val) :
    Host.gather gather_S2x6554x8x128_S32768x1_S2x32768x8x128_023_1_n_n_1_1_218128 x idx (ix4 b j h l) = x (ix4 b r h l) := by
  unfold Host.gather
  refine congrArg x (funext fun a => Fin.ext ?_)
  generalize hd : gather_S2x6554x8x128_S32768x1_S2x32768x8x128_023_1_n_n_1_1_218128 = d
  have hbN : ∀ a', a' ∉ d.operandBatchingDims := fun a' => by subst hd; exact List.not_mem_nil
  show d.start (ix4 b j h l) idx a + d.batchCoord (ix4 b j h l) a + d.offCoord (ix4 b j h l) a = _
  rw [d.batchCoord_eq_zero _ _ (hbN a)]
  subst hd
  match a with
  | ⟨0, _⟩ => exact Nat.zero_add _
  | ⟨1, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨1, by decide⟩ : Fin 4) ∈ gather_S2x6554x8x128_S32768x1_S2x32768x8x128_023_1_n_n_1_1_218128.startIndexMap from List.mem_singleton.mpr rfl)]
    have hsi : GatherDims.siIdx gather_S2x6554x8x128_S32768x1_S2x32768x8x128_023_1_n_n_1_1_218128 (ix4 b j h l)
        ⟨List.idxOf (1 : Fin 4) [1], List.idxOf_lt_length_iff.2 (List.mem_singleton.mpr rfl)⟩ = ix2 j (0 : Fin 1) := by
      funext b'; refine Fin.ext ?_
      match b' with
      | ⟨0, _⟩ => rfl
      | ⟨1, _⟩ => rfl
    have hrl := r.isLt
    refine (congrArg (fun w : BitVec 32 => min w.toInt.toNat (6554 - 1)) ((congrArg idx hsi).trans hr)).trans ?_
    show min (BitVec.ofNat 32 r.val).toInt.toNat (6554 - 1) = r.val
    rw [StableHlo.Predicate.toInt_ofNat_small _ (by omega)]
    show min ((r.val : Int)).toNat (6554 - 1) = r.val
    omega
  | ⟨2, _⟩ => exact Nat.zero_add _
  | ⟨3, _⟩ => exact Nat.zero_add _

end Cert.RefProof

end
-- ==== Proof.RefValue.lean ====
/-
  The reference's two results, read at an index. Each stream is one function of its four arrays, `refStream`: token `t` of
  batch `b` at head `h` and lane `l` is the token's nibble times the delta scale, plus its group's anchor times the anchor
  scale (`refStream_apply`).
-/
module

public import proofs.«01_k».proof.Proof.Gen.ReferenceIdeal.Run
public import proofs.«01_k».proof.Proof.RefIndex

@[expose] public section

noncomputable section

namespace Cert.RefProof

open Cert.ReferenceIdeal Cert.ReferenceIdeal.Gen
open Idealize.ShloMosaic Idealize.ShloMosaic.TcCoe Idealize.ShloMosaic.StableHlo Idealize.SL.Sem

/-- A nibble's word, 0 … 15, made signed: 16 less from 8 on. -/
def signedNib (w : IVec S2x32768x8x128 32) : IVec S2x32768x8x128 32 :=
  subi w (muli (broadcastInDim S2x32768x8x128 ![] bcast_S_S2x32768x8x128 (constantI S_ 32 16#32))
    (extui 32 (cmpi .sge w (broadcastInDim S2x32768x8x128 ![] bcast_S_S2x32768x8x128 (constantI S_ 32 8#32))) natLt_1_32))

/-- The low nibbles of the bytes. -/
def loNib (D : IVec S2x32768x8x128 8) : IVec S2x32768x8x128 32 :=
  andi (extui 32 D natLt_8_32) (broadcastInDim S2x32768x8x128 ![] bcast_S_S2x32768x8x128 (constantI S_ 32 15#32))

/-- The high nibbles of the bytes. -/
def hiNib (D : IVec S2x32768x8x128 8) : IVec S2x32768x8x128 32 :=
  Host.shrsi (extui 32 D natLt_8_32) (broadcastInDim S2x32768x8x128 ![] bcast_S_S2x32768x8x128 (constantI S_ 32 4#32))

/-- The anchors times their scales. -/
def anchorDeq (A : IVec S2x6554x8x128 8) (S : FVec Ideal S2x8x128 .f32) : FVec Ideal S2x6554x8x128 .f32 :=
  mulf (sitofp .f32 (extsi 32 A natLt_8_32))
    (broadcastInDim S2x6554x8x128 ![0, 1, 2, 3] bcast_S2x1x8x128_S2x6554x8x128_0_1_2_3
      (broadcastInDim S2x1x8x128 ![0, 2, 3] bcast_S2x8x128_S2x1x8x128_0_2_3 S))

/-- The tokens of one parity, whose numbers are `tok` and whose nibbles are `w`. -/
def halfVal (A : IVec S2x6554x8x128 8) (S T : FVec Ideal S2x8x128 .f32) (tok : IVec S32768 32) (w : IVec S2x32768x8x128 32) :
    FVec Ideal S2x32768x8x128 .f32 :=
  addf (Host.gather gather_S2x6554x8x128_S32768x1_S2x32768x8x128_023_1_n_n_1_1_218128 (anchorDeq A S) (rowCol (groupOf tok)))
    (mulf (sitofp .f32 (signedNib w))
      (broadcastInDim S2x32768x8x128 ![0, 1, 2, 3] bcast_S2x1x8x128_S2x32768x8x128_0_1_2_3
        (broadcastInDim S2x1x8x128 ![0, 2, 3] bcast_S2x8x128_S2x1x8x128_0_2_3 T)))

/-- The two parities joined along a new axis. -/
def stacked (e o : FVec Ideal S2x32768x8x128 .f32) : FVec Ideal S2x32768x2x8x128 .f32 :=
  concatenate S2x32768x2x8x128 2
    [⟨S2x32768x1x8x128, broadcastInDim S2x32768x1x8x128 ![0, 1, 3, 4] bcast_S2x32768x8x128_S2x32768x1x8x128_0_1_3_4 e⟩,
     ⟨S2x32768x1x8x128, broadcastInDim S2x32768x1x8x128 ![0, 1, 3, 4] bcast_S2x32768x8x128_S2x32768x1x8x128_0_1_3_4 o⟩]
    concatenates_S2x32768x1x8x128_S2x32768x1x8x128_S2x32768x2x8x128_d2

/-- The two parities interleaved. -/
def interleave (e o : FVec Ideal S2x32768x8x128 .f32) : FVec Ideal S2x65536x8x128 .bf16 :=
  truncf .bf16 (shapeCast _ (stacked e o) shapeCasts_S2x32768x2x8x128_S2x65536x8x128) bitsLt_bf16_f32

/-- One stream of the reference. -/
def refStream (A : IVec S2x6554x8x128 8) (S : FVec Ideal S2x8x128 .f32) (D : IVec S2x32768x8x128 8) (T : FVec Ideal S2x8x128 .f32) :
    FVec Ideal S2x65536x8x128 .bf16 :=
  interleave (halfVal A S T evenTok (loNib D)) (halfVal A S T oddTok (hiNib D))

/-- The nibble of parity `p` of a byte as the reference computes it. -/
def refNib (p : ℕ) (b : BitVec 8) : BitVec 32 :=
  let w : BitVec 32 := if p = 0 then b.setWidth 32 &&& 15#32 else (b.setWidth 32).sshiftRight 4
  w - 16#32 * (BitVec.ofBool ((8#32).sle w)).setWidth 32

theorem loNib_apply (D : IVec S2x32768x8x128 8) (i : S2x32768x8x128.Idx) : signedNib (loNib D) i = refNib 0 (D i) := by
  rfl

theorem hiNib_apply (D : IVec S2x32768x8x128 8) (i : S2x32768x8x128.Idx) : signedNib (hiNib D) i = refNib 1 (D i) := by
  rfl

theorem anchorDeq_apply (A : IVec S2x6554x8x128 8) (S : FVec Ideal S2x8x128 .f32) (b : Fin 2) (r : Fin 6554) (h : Fin 8) (l : Fin 128) :
    anchorDeq A S (ix4 b r h l) = ((((A (ix4 b r h l)).signExtend 32).toInt : ℝ) : EReal) * S (ix3 b h l) := by
  unfold anchorDeq
  pointwise []
  rfl

theorem halfVal_apply (A : IVec S2x6554x8x128 8) (S T : FVec Ideal S2x8x128 .f32) (tok : IVec S32768 32)
    (w : IVec S2x32768x8x128 32) (b : Fin 2) (j : Fin 32768) (h : Fin 8) (l : Fin 128) (a : ℕ) (ha : a < 65536)
    (htok : tok (ix1 j) = BitVec.ofNat 32 a) :
    halfVal A S T tok w (ix4 b j h l)
      = ((((A (ix4 b ⟨a / 10, by omega⟩ h l)).signExtend 32).toInt : ℝ) : EReal) * S (ix3 b h l)
        + (((signedNib w (ix4 b j h l)).toInt : ℝ) : EReal) * T (ix3 b h l) := by
  unfold halfVal
  refine (addf_apply _ _ _).trans ?_
  rw [gather_apply _ _ b j h l ⟨a / 10, by omega⟩ (rowCol_apply tok j a htok ha), anchorDeq_apply]
  pointwise []
  rfl

/-- The unit axis that a parity's array gets before the two are joined. -/
theorem unit_apply (e : FVec Ideal S2x32768x8x128 .f32) (b : Fin 2) (j : Fin 32768) (h : Fin 8) (l : Fin 128) :
    broadcastInDim S2x32768x1x8x128 ![0, 1, 3, 4] bcast_S2x32768x8x128_S2x32768x1x8x128_0_1_3_4 e (ix5 b j (0 : Fin 1) h l)
      = e (ix4 b j h l) := by
  refine broadcastInDim_apply _ _ e _ _ fun a => ?_
  match a with
  | ⟨0, _⟩ => rfl
  | ⟨1, _⟩ => rfl
  | ⟨2, _⟩ => rfl
  | ⟨3, _⟩ => rfl

theorem stacked_even (e o : FVec Ideal S2x32768x8x128 .f32) (b : Fin 2) (j : Fin 32768) (h : Fin 8) (l : Fin 128) :
    stacked e o (ix5 b j (0 : Fin 2) h l) = e (ix4 b j h l) := by
  refine (concatenate_pair_apply_left (t := S2x32768x2x8x128) (s₁ := S2x32768x1x8x128) (s₂ := S2x32768x1x8x128) (2 : Fin 5) _ _ _ (ix5 b j (0 : Fin 2) h l) rfl
    (ix5 b j (0 : Fin 1) h l) fun a => ?_).trans (unit_apply e b j h l)
  match a with
  | ⟨0, _⟩ => rfl
  | ⟨1, _⟩ => rfl
  | ⟨2, _⟩ => rfl
  | ⟨3, _⟩ => rfl
  | ⟨4, _⟩ => rfl

theorem stacked_odd (e o : FVec Ideal S2x32768x8x128 .f32) (b : Fin 2) (j : Fin 32768) (h : Fin 8) (l : Fin 128) :
    stacked e o (ix5 b j (1 : Fin 2) h l) = o (ix4 b j h l) := by
  refine (concatenate_pair_apply_right (t := S2x32768x2x8x128) (s₁ := S2x32768x1x8x128) (s₂ := S2x32768x1x8x128) (2 : Fin 5) _ _ _ (ix5 b j (1 : Fin 2) h l) rfl rfl
    (ix5 b j (0 : Fin 1) h l) (fun a ha => ?_) rfl).trans (unit_apply o b j h l)
  match a, ha with
  | ⟨0, _⟩, _ => rfl
  | ⟨1, _⟩, _ => rfl
  | ⟨2, _⟩, ha => exact absurd rfl ha
  | ⟨3, _⟩, _ => rfl
  | ⟨4, _⟩, _ => rfl

/-- The row-major position of an index of rank 5. -/
theorem rowMajor_ix5 {n0 n1 n2 n3 n4 : ℕ} (a : Fin n0) (b : Fin n1) (c : Fin n2) (d : Fin n3) (e : Fin n4) :
    ((⟨5, ![n0, n1, n2, n3, n4]⟩ : Shape).rowMajor (ix5 a b c d e)).val
      = (((a.val * n1 + b.val) * n2 + c.val) * n3 + d.val) * n4 + e.val :=
  Shape.rowMajor_val_five _

/-- The row-major position of an index of rank 4. -/
theorem rowMajor_ix4 {n0 n1 n2 n3 : ℕ} (a : Fin n0) (b : Fin n1) (c : Fin n2) (d : Fin n3) :
    ((⟨4, ![n0, n1, n2, n3]⟩ : Shape).rowMajor (ix4 a b c d)).val
      = ((a.val * n1 + b.val) * n2 + c.val) * n3 + d.val :=
  Shape.rowMajor_val_four _

/-- The reshape of the joined array at an index: token `2 j + p` is pair `j`'s token of parity `p`. -/
theorem cast_at (x : FVec Ideal S2x32768x2x8x128 .f32) (b : Fin 2) (t : Fin 65536) (h : Fin 8) (l : Fin 128)
    (j : Fin 32768) (p : Fin 2) (ht : t.val = 2 * j.val + p.val) :
    shapeCast S2x65536x8x128 x shapeCasts_S2x32768x2x8x128_S2x65536x8x128 (ix4 b t h l) = x (ix5 b j p h l) := by
  refine shapeCast_apply x _ _ _ ?_
  rw [rowMajor_ix5, rowMajor_ix4]
  omega

/-- The token of parity `p` of pair `j`, out of the reshaped pair of arrays. -/
theorem interleave_at (e o : FVec Ideal S2x32768x8x128 .f32) (b : Fin 2) (t : Fin 65536) (h : Fin 8) (l : Fin 128)
    (j : Fin 32768) (p : Fin 2) (ht : t.val = 2 * j.val + p.val) :
    interleave e o (ix4 b t h l) = stacked e o (ix5 b j p h l) := by
  refine (truncf_apply _ _ _ _).trans ?_
  refine (Ideal.truncf_def _ .bf16 bitsLt_bf16_f32).trans ?_
  exact cast_at (stacked e o) b t h l j p ht

/-- One stream of the reference at an index. -/
theorem refStream_apply (A : IVec S2x6554x8x128 8) (S : FVec Ideal S2x8x128 .f32) (D : IVec S2x32768x8x128 8)
    (T : FVec Ideal S2x8x128 .f32) (b : Fin 2) (t : Fin 65536) (h : Fin 8) (l : Fin 128) :
    refStream A S D T (ix4 b t h l)
      = ((((A (ix4 b ⟨t.val / 10, by omega⟩ h l)).signExtend 32).toInt : ℝ) : EReal) * S (ix3 b h l)
        + (((refNib (t.val % 2) (D (ix4 b ⟨t.val / 2, by omega⟩ h l))).toInt : ℝ) : EReal) * T (ix3 b h l) := by
  have htl := t.isLt
  rcases Nat.mod_two_eq_zero_or_one t.val with hp | hp
  · rw [hp]
    refine (interleave_at _ _ b t h l ⟨t.val / 2, by omega⟩ 0 (show t.val = 2 * (t.val / 2) + 0 by omega)).trans ?_
    refine (stacked_even _ _ b _ h l).trans ?_
    refine halfVal_apply A S T evenTok (loNib D) b _ h l t.val htl ?_
    refine (evenTok_apply _).trans (congrArg (BitVec.ofNat 32) ?_)
    show 2 * (t.val / 2) = t.val
    omega
  · rw [hp]
    refine (interleave_at _ _ b t h l ⟨t.val / 2, by omega⟩ 1 (show t.val = 2 * (t.val / 2) + 1 by omega)).trans ?_
    refine (stacked_odd _ _ b _ h l).trans ?_
    refine halfVal_apply A S T oddTok (hiNib D) b _ h l t.val htl ?_
    refine (oddTok_apply _).trans (congrArg (BitVec.ofNat 32) ?_)
    show 2 * (t.val / 2) + 1 = t.val
    omega

end Cert.RefProof

end
-- ==== Proof.RefRun.lean ====
/-
  The reference's run, in the terms of `refStream`: every execution terminates with each result at its stream of the
  arguments, with the arguments as launched, and with every semaphore counter at zero (the program has none).
-/
module

public import proofs.«01_k».proof.Proof.RefValue
public import Idealize.ShloMosaic.Lib.Quiescent

@[expose] public section

noncomputable section

namespace Cert.RefProof

open Cert.ReferenceIdeal Cert.ReferenceIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg)

/-- The first result: the stream of the first four arguments. -/
def refK (c : Dev nD) : FVec Ideal S2x65536x8x128 .bf16 :=
  refStream (m ((c.tc : Thread nD τ).loc main_arg0)) (m ((c.tc : Thread nD τ).loc main_arg1))
    (m ((c.tc : Thread nD τ).loc main_arg2)) (m ((c.tc : Thread nD τ).loc main_arg3))

/-- The second result: the stream of the last four arguments. -/
def refV (c : Dev nD) : FVec Ideal S2x65536x8x128 .bf16 :=
  refStream (m ((c.tc : Thread nD τ).loc main_arg4)) (m ((c.tc : Thread nD τ).loc main_arg5))
    (m ((c.tc : Thread nD τ).loc main_arg6)) (m ((c.tc : Thread nD τ).loc main_arg7))

theorem run :
    θ_run defs (onTc (τ := τ) (main (F := Ideal))) ⟨m, fun _ => 0, ρ⟩ (fun r => (∀ c : Dev nD,
      r.2.mem ((c.tc : Thread nD τ).loc main_v58) = refK m c
      ∧ r.2.mem ((c.tc : Thread nD τ).loc main_v117) = refV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  (θ_run defs _ _).mono (fun r h => ⟨fun c => ⟨(h c).1.trans rfl, (h c).2.1.trans rfl, (h c).2.2⟩,
    sem_eq_zero_of_no_sems (by decide) r.2⟩) (Value.run m ρ)

end Cert.RefProof

end
-- ==== Proof.Equation.lean ====
/-
  The equation between the two programs: an element of a kernel's result array, reshaped to batch, token, head and lane, is
  the reference's element there. A token's head row is row `8 t + h` of the flat array; the two nibble computations agree
  on every byte, and the sum's two terms come in the other order.
-/
module

public import proofs.«01_k».proof.Proof.Windows
public import proofs.«01_k».proof.Proof.RefValue

@[expose] public section

noncomputable section

namespace Cert.Equation

open Idealize.ShloMosaic Cert.KernelIdealProof Cert.RefProof
open Cert.KernelIdeal (S2x6554x8x128 S2x32768x8x128 S2x52432x128 S2x262144x128 S2x524288x128 S2x65536x8x128 S2x8x128)
open Cert.KernelIdeal.Gen (shapeCasts_S2x6554x8x128_S2x52432x128 shapeCasts_S2x32768x8x128_S2x262144x128
  shapeCasts_S2x524288x128_S2x65536x8x128)

/-- The low nibbles agree: shifted up and down, or masked and made signed. -/
theorem nib_lo : ∀ b : BitVec 8, (nibWord 0 b).toInt = (refNib 0 b).toInt := by decide +kernel

/-- The high nibbles agree. -/
theorem nib_hi : ∀ b : BitVec 8, (nibWord 1 b).toInt = (refNib 1 b).toInt := by decide +kernel

/-- The nibble of a token's parity, both ways. -/
theorem nib_eq (t : ℕ) (b : BitVec 8) : (nibWord (t % 2) b).toInt = (refNib (t % 2) b).toInt := by
  rcases Nat.mod_two_eq_zero_or_one t with h | h
  · rw [h]; exact nib_lo b
  · rw [h]; exact nib_hi b

/-- Widening an anchor code keeps its value. -/
theorem code_eq (b : BitVec 8) : (b.signExtend 32).toInt = b.toInt :=
  BitVec.toInt_signExtend_of_le (by decide)

/-- The row-major position of an index of rank 3. -/
theorem rowMajor_ix3 {n0 n1 n2 : ℕ} (a : Fin n0) (b : Fin n1) (c : Fin n2) :
    ((⟨3, ![n0, n1, n2]⟩ : Shape).rowMajor (ix3 a b c)).val = (a.val * n1 + b.val) * n2 + c.val :=
  Shape.rowMajor_val_three _

/-- An array whose rows and heads are one axis, reshaped from one where they are two: row `R` is head `h` of row `r`
    where `R = 8 r + h`. -/
theorem flat_apply {α : Type} {n N : ℕ} (x : (⟨4, ![2, n, 8, 128]⟩ : Shape).Idx → α)
    (hc : (⟨4, ![2, n, 8, 128]⟩ : Shape).ShapeCasts ⟨3, ![2, N, 128]⟩) (hN : N = 8 * n) (b : Fin 2) (R : Fin N) (l : Fin 128)
    (r : Fin n) (h : Fin 8) (hR : R.val = 8 * r.val + h.val) :
    shapeCast (⟨3, ![2, N, 128]⟩ : Shape) x hc (ix3 b R l) = x (ix4 b r h l) := by
  refine shapeCast_apply x hc _ _ ?_
  rw [rowMajor_ix4, rowMajor_ix3, hR, hN]
  ring

/-- The reshape the other way. -/
theorem deep_apply {α : Type} {n N : ℕ} (x : (⟨3, ![2, N, 128]⟩ : Shape).Idx → α)
    (hc : (⟨3, ![2, N, 128]⟩ : Shape).ShapeCasts ⟨4, ![2, n, 8, 128]⟩) (hN : N = 8 * n) (b : Fin 2) (R : Fin N) (l : Fin 128)
    (r : Fin n) (h : Fin 8) (hR : R.val = 8 * r.val + h.val) :
    shapeCast (⟨4, ![2, n, 8, 128]⟩ : Shape) x hc (ix4 b r h l) = x (ix3 b R l) := by
  refine shapeCast_apply x hc _ _ ?_
  rw [rowMajor_ix4, rowMajor_ix3, hR, hN]
  ring

/-- The closed form of the kernel's element, its operands' elements given by their values. -/
theorem outVal_eq (A : S2x52432x128.Idx → BitVec 8) (S : S2x8x128.Idx → EReal) (D : S2x262144x128.Idx → BitVec 8)
    (T : S2x8x128.Idx → EReal) (b : Fin 2) (R : Fin 524288) (l : Fin 128) (a d : BitVec 8) (p : ℕ) (h : Fin 8)
    (hA : A (ix3 b ⟨8 * (R.val / 80) + R.val % 8, by omega⟩ l) = a)
    (hD : D (ix3 b ⟨8 * (R.val / 16) + R.val % 8, by omega⟩ l) = d) (hp : R.val / 8 % 2 = p)
    (hr : (⟨R.val % 8, by omega⟩ : Fin 8) = h) :
    outArr A S D T (ix3 b R l)
      = (((nibWord p d).toInt : ℝ) : EReal) * T (ix3 b h l) + (((a.toInt : ℝ)) : EReal) * S (ix3 b h l) := by
  subst hA hD hp hr
  rfl

/-- One stream: the kernel's result array at an index is the reference's. -/
theorem stream_apply (A : S2x6554x8x128.Idx → BitVec 8) (S : S2x8x128.Idx → EReal) (D : S2x32768x8x128.Idx → BitVec 8)
    (T : S2x8x128.Idx → EReal) (b : Fin 2) (t : Fin 65536) (h : Fin 8) (l : Fin 128) :
    shapeCast S2x65536x8x128 (outArr (shapeCast S2x52432x128 A shapeCasts_S2x6554x8x128_S2x52432x128) S
        (shapeCast S2x262144x128 D shapeCasts_S2x32768x8x128_S2x262144x128) T) shapeCasts_S2x524288x128_S2x65536x8x128 (ix4 b t h l)
      = refStream A S D T (ix4 b t h l) := by
  have ht := t.isLt
  have hh := h.isLt
  have hR : 8 * t.val + h.val < 524288 := by omega
  refine (deep_apply (n := 65536) (N := 524288) _ _ rfl b ⟨8 * t.val + h.val, hR⟩ l t h rfl).trans ?_
  refine Eq.trans ?_ (refStream_apply A S D T b t h l).symm
  have hA : shapeCast S2x52432x128 A shapeCasts_S2x6554x8x128_S2x52432x128
      (ix3 b ⟨8 * ((8 * t.val + h.val) / 80) + (8 * t.val + h.val) % 8, by omega⟩ l) = A (ix4 b ⟨t.val / 10, by omega⟩ h l) :=
    flat_apply (n := 6554) (N := 52432) A _ rfl b _ l ⟨t.val / 10, by omega⟩ h
      (show 8 * ((8 * t.val + h.val) / 80) + (8 * t.val + h.val) % 8 = 8 * (t.val / 10) + h.val by omega)
  have hD : shapeCast S2x262144x128 D shapeCasts_S2x32768x8x128_S2x262144x128
      (ix3 b ⟨8 * ((8 * t.val + h.val) / 16) + (8 * t.val + h.val) % 8, by omega⟩ l) = D (ix4 b ⟨t.val / 2, by omega⟩ h l) :=
    flat_apply (n := 32768) (N := 262144) D _ rfl b _ l ⟨t.val / 2, by omega⟩ h
      (show 8 * ((8 * t.val + h.val) / 16) + (8 * t.val + h.val) % 8 = 8 * (t.val / 2) + h.val by omega)
  have hp : (8 * t.val + h.val) / 8 % 2 = t.val % 2 := by omega
  have hr : (⟨(8 * t.val + h.val) % 8, by omega⟩ : Fin 8) = h := Fin.ext (by show (8 * t.val + h.val) % 8 = h.val; omega)
  refine (outVal_eq (shapeCast S2x52432x128 A shapeCasts_S2x6554x8x128_S2x52432x128) S
    (shapeCast S2x262144x128 D shapeCasts_S2x32768x8x128_S2x262144x128) T b ⟨8 * t.val + h.val, hR⟩ l _ _ _ _ hA hD hp hr).trans ?_
  rw [nib_eq, code_eq]
  exact add_comm _ _

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelFrame
public import proofs.«01_k».proof.Proof.IdealRun
public import proofs.«01_k».proof.Proof.RefRun
public import proofs.«01_k».proof.Proof.Equation
public import Idealize.ShloMosaic.Lib.Bf16Pair
public import Idealize.ShloMosaic.Adequacy
public import Idealize.ShloMosaic.Init

@[expose] public section

noncomputable section

namespace Cert.Proof

open Idealize.ShloMosaic Idealize.SL.Sem Cert.Kernel

/-- The first result of the two programs from memories with the same arguments. -/
theorem refK_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.RefProof.refK m' c = shapeCast Cert.KernelIdeal.S2x65536x8x128 (Cert.KernelIdealProof.final_8 m c)
      Cert.KernelIdeal.Gen.shapeCasts_S2x524288x128_S2x65536x8x128 := by
  unfold Cert.RefProof.refK Cert.KernelIdealProof.final_8
  rw [h0, h1, h2, h3, Cert.KernelIdealProof.V_main_v0, Cert.KernelIdealProof.V_main_v1, Cert.KernelIdeal.Gen.V_main_arg1,
    Cert.KernelIdeal.Gen.V_main_arg3]
  funext y
  rw [eq_ix4 y]
  exact (Cert.Equation.stream_apply _ _ _ _ (y 0) (y 1) (y 2) (y 3)).symm

/-- The second result of the two programs from memories with the same arguments. -/
theorem refV_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h1 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h2 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h3 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.RefProof.refV m' c = shapeCast Cert.KernelIdeal.S2x65536x8x128 (Cert.KernelIdealProof.final_9 m c)
      Cert.KernelIdeal.Gen.shapeCasts_S2x524288x128_S2x65536x8x128 := by
  unfold Cert.RefProof.refV Cert.KernelIdealProof.final_9
  rw [h0, h1, h2, h3, Cert.KernelIdealProof.V_main_v2, Cert.KernelIdealProof.V_main_v3, Cert.KernelIdeal.Gen.V_main_arg5,
    Cert.KernelIdeal.Gen.V_main_arg7]
  funext y
  rw [eq_ix4 y]
  exact (Cert.Equation.stream_apply _ _ _ _ (y 0) (y 1) (y 2) (y 3)).symm

/-- The exact kernel and the exact reference, from memories with the same arguments, end with the same two results. -/
theorem algebraic : Cert.algebraic_KernelIdeal_ReferenceIdeal := fun m g m' g' _ hargs =>
  ⟨fun c => shapeCast Cert.KernelIdeal.S2x65536x8x128 (Cert.KernelIdealProof.final_8 m c)
      Cert.KernelIdeal.Gen.shapeCasts_S2x524288x128_S2x65536x8x128,
    fun c => shapeCast Cert.KernelIdeal.S2x65536x8x128 (Cert.KernelIdealProof.final_9 m c)
      Cert.KernelIdeal.Gen.shapeCasts_S2x524288x128_S2x65536x8x128,
    (θ_run _ _ _).mono (fun r h c => ⟨(h.1 c).1.1, (h.1 c).1.2, (h.1 c).2⟩) (Cert.KernelIdealProof.run m g),
    (θ_run _ _ _).mono (fun r h c =>
      have ⟨a0, a1, a2, a3, a4, a5, a6, a7⟩ := hargs c
      ⟨(h.1 c).1.trans (refK_eq m m' c a0 a1 a2 a3), (h.1 c).2.1.trans (refV_eq m m' c a4 a5 a6 a7), (h.1 c).2.2⟩)
      (Cert.RefProof.run m' g')⟩

/-- All five claims: the three programs terminate and leave their arguments, the exact kernel is the kernel over the
extended reals, and it computes the reference's two results. -/
theorem claim : Cert.Claim := ⟨Cert.Kernel.Gen.facts, Cert.KernelIdeal.Gen.facts, Cert.ReferenceIdeal.Gen.facts,
  fun m g _ => Cert.KernelProof.run_frame m g,
  fun m g _ => (θ_run _ _ _).mono (fun _ h => ⟨fun c => (h.1 c).2, h.2⟩) (Cert.KernelIdealProof.run m g),
  fun m g _ => (θ_run _ _ _).mono (fun _ h => ⟨fun c => (h.1 c).2.2, h.2⟩) (Cert.RefProof.run m g),
  IdealRules.bf16_pair.statement _ _,
  algebraic⟩

end Cert.Proof

end
